-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v151)) (v1 : (c : Dev Cert.KernelIdeal.nD) → Buf (Elt Ideal) ((c.tc : Thread Cert.KernelIdeal.nD Cert.KernelIdeal.τ).loc Cert.KernelIdeal.main_v210)) (v2 : (c : Dev Cert.KernelIdeal.nD) → Buf (Elt Ideal) ((c.tc : Thread Cert.KernelIdeal.nD Cert.KernelIdeal.τ).loc Cert.KernelIdeal.main_v215)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v151) = v0 c
          ∧ r.2.mem ((c.tc : Thread Cert.KernelIdeal.nD Cert.KernelIdeal.τ).loc Cert.KernelIdeal.main_v210) = v1 c
          ∧ r.2.mem ((c.tc : Thread Cert.KernelIdeal.nD Cert.KernelIdeal.τ).loc Cert.KernelIdeal.main_v215) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v150) = v0 c
          ∧ r.2.mem ((c.tc : Thread Cert.ReferenceIdeal.nD Cert.ReferenceIdeal.τ).loc Cert.ReferenceIdeal.main_v209) = v1 c
          ∧ r.2.mem ((c.tc : Thread Cert.ReferenceIdeal.nD Cert.ReferenceIdeal.τ).loc Cert.ReferenceIdeal.main_v214) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8192x3 : Shape := ⟨2, ![8192, 3]⟩
abbrev S8192 : Shape := ⟨1, ![8192]⟩
abbrev S6x128 : Shape := ⟨2, ![6, 128]⟩
abbrev S128 : Shape := ⟨1, ![128]⟩
abbrev S128x128 : Shape := ⟨2, ![128, 128]⟩
abbrev S128x4 : Shape := ⟨2, ![128, 4]⟩
abbrev S4 : Shape := ⟨1, ![4]⟩
abbrev S_ : Shape := ⟨0, ![]⟩
abbrev S8192x1 : Shape := ⟨2, ![8192, 1]⟩
abbrev S1x8192 : Shape := ⟨2, ![1, 8192]⟩
abbrev S8192x8192 : Shape := ⟨2, ![8192, 8192]⟩
abbrev S3x8192 : Shape := ⟨2, ![3, 8192]⟩
abbrev S8192x32 : Shape := ⟨2, ![8192, 32]⟩
abbrev S8192x32x1 : Shape := ⟨3, ![8192, 32, 1]⟩
abbrev S8192x32x3 : Shape := ⟨3, ![8192, 32, 3]⟩
abbrev S8192x1x3 : Shape := ⟨3, ![8192, 1, 3]⟩
abbrev S8192x32x6 : Shape := ⟨3, ![8192, 32, 6]⟩
abbrev S262144x6 : Shape := ⟨2, ![262144, 6]⟩
abbrev S262144x128 : Shape := ⟨2, ![262144, 128]⟩
abbrev S1x128 : Shape := ⟨2, ![1, 128]⟩
abbrev S8192x32x128 : Shape := ⟨3, ![8192, 32, 128]⟩
abbrev S8192x128 : Shape := ⟨2, ![8192, 128]⟩
abbrev S8192x4 : Shape := ⟨2, ![8192, 4]⟩
abbrev S1x4 : Shape := ⟨2, ![1, 4]⟩
abbrev S4x8192 : Shape := ⟨2, ![4, 8192]⟩

abbrev nBuf : Space → Nat
  | .hbm => 287
  | .vmem => 2
  | .smem => 0
  | _ => 0

abbrev hbmTy0_0 (i : Nat) : BufTy := match i % 128 with
  | 0 => ⟨S8192x3, .f32⟩
  | 1 => ⟨S8192, .i32⟩
  | 2 => ⟨S6x128, .f32⟩
  | 3 => ⟨S128, .f32⟩
  | 4 => ⟨S128, .f32⟩
  | 5 => ⟨S128, .f32⟩
  | 6 => ⟨S128x128, .f32⟩
  | 7 => ⟨S128, .f32⟩
  | 8 => ⟨S128, .f32⟩
  | 9 => ⟨S128, .f32⟩
  | 10 => ⟨S128x128, .f32⟩
  | 11 => ⟨S128, .f32⟩
  | 12 => ⟨S128, .f32⟩
  | 13 => ⟨S128, .f32⟩
  | 14 => ⟨S128x4, .f32⟩
  | 15 => ⟨S4, .f32⟩
  | 16 => ⟨S8192x3, .f32⟩
  | 17 => ⟨S_, .f32⟩
  | 18 => ⟨S8192, .f32⟩
  | 19 => ⟨S8192x1, .f32⟩
  | 20 => ⟨S1x8192, .f32⟩
  | 21 => ⟨S8192x8192, .f32⟩
  | 22 => ⟨S8192x8192, .f32⟩
  | 23 => ⟨S8192x8192, .f32⟩
  | 24 => ⟨S3x8192, .f32⟩
  | 25 => ⟨S8192x8192, .f32⟩
  | 26 => ⟨S_, .f32⟩
  | 27 => ⟨S8192x8192, .f32⟩
  | 28 => ⟨S8192x8192, .f32⟩
  | 29 => ⟨S8192x8192, .f32⟩
  | 30 => ⟨S8192x1, .i32⟩
  | 31 => ⟨S1x8192, .i32⟩
  | 32 => ⟨S8192x8192, .i32⟩
  | 33 => ⟨S8192x8192, .i32⟩
  | 34 => ⟨S8192x8192, .i1⟩
  | 35 => ⟨S_, .f32⟩
  | 36 => ⟨S_, .f32⟩
  | 37 => ⟨S8192x8192, .f32⟩
  | 38 => ⟨S8192x8192, .f32⟩
  | 39 => ⟨S8192x8192, .f32⟩
  | 40 => ⟨S8192x32, .f32⟩
  | 41 => ⟨S8192x32, .i32⟩
  | 42 => ⟨S_, .i32⟩
  | 43 => ⟨S8192x32, .i32⟩
  | 44 => ⟨S8192x32, .i1⟩
  | 45 => ⟨S_, .i32⟩
  | 46 => ⟨S8192x32, .i32⟩
  | 47 => ⟨S8192x32, .i32⟩
  | 48 => ⟨S8192x32, .i32⟩
  | 49 => ⟨S8192x32x1, .i32⟩
  | 50 => ⟨S8192x32x3, .f32⟩
  | 51 => ⟨S8192x1x3, .f32⟩
  | 52 => ⟨S8192x32x3, .f32⟩
  | 53 => ⟨S8192x32x3, .f32⟩
  | 54 => ⟨S8192x32x6, .f32⟩
  | 55 => ⟨S262144x6, .f32⟩
  | 56 => ⟨S262144x128, .f32⟩
  | 57 => ⟨S1x128, .f32⟩
  | 58 => ⟨S262144x128, .f32⟩
  | 59 => ⟨S262144x128, .f32⟩
  | 60 => ⟨S_, .f32⟩
  | 61 => ⟨S128, .f32⟩
  | 62 => ⟨S_, .f32⟩
  | 63 => ⟨S128, .f32⟩
  | 64 => ⟨S128, .f32⟩
  | 65 => ⟨S1x128, .f32⟩
  | 66 => ⟨S262144x128, .f32⟩
  | 67 => ⟨S262144x128, .f32⟩
  | 68 => ⟨S262144x128, .f32⟩
  | 69 => ⟨S_, .f32⟩
  | 70 => ⟨S128, .f32⟩
  | 71 => ⟨S_, .f32⟩
  | 72 => ⟨S128, .f32⟩
  | 73 => ⟨S128, .f32⟩
  | 74 => ⟨S1x128, .f32⟩
  | 75 => ⟨S262144x128, .f32⟩
  | 76 => ⟨S262144x128, .f32⟩
  | 77 => ⟨S1x128, .f32⟩
  | 78 => ⟨S262144x128, .f32⟩
  | 79 => ⟨S262144x128, .f32⟩
  | 80 => ⟨S_, .f32⟩
  | 81 => ⟨S128, .f32⟩
  | 82 => ⟨S128, .f32⟩
  | 83 => ⟨S128, .f32⟩
  | 84 => ⟨S1x128, .f32⟩
  | 85 => ⟨S262144x128, .f32⟩
  | 86 => ⟨S262144x128, .f32⟩
  | 87 => ⟨S1x128, .f32⟩
  | 88 => ⟨S262144x128, .f32⟩
  | 89 => ⟨S262144x128, .f32⟩
  | 90 => ⟨S_, .f32⟩
  | 91 => ⟨S262144x128, .f32⟩
  | 92 => ⟨S262144x128, .f32⟩
  | 93 => ⟨S262144x128, .f32⟩
  | 94 => ⟨S_, .f32⟩
  | 95 => ⟨S262144x128, .f32⟩
  | 96 => ⟨S262144x128, .f32⟩
  | 97 => ⟨S262144x128, .f32⟩
  | 98 => ⟨S262144x128, .f32⟩
  | 99 => ⟨S262144x128, .f32⟩
  | 100 => ⟨S1x128, .f32⟩
  | 101 => ⟨S262144x128, .f32⟩
  | 102 => ⟨S262144x128, .f32⟩
  | 103 => ⟨S_, .f32⟩
  | 104 => ⟨S128, .f32⟩
  | 105 => ⟨S_, .f32⟩
  | 106 => ⟨S128, .f32⟩
  | 107 => ⟨S128, .f32⟩
  | 108 => ⟨S1x128, .f32⟩
  | 109 => ⟨S262144x128, .f32⟩
  | 110 => ⟨S262144x128, .f32⟩
  | 111 => ⟨S262144x128, .f32⟩
  | 112 => ⟨S_, .f32⟩
  | 113 => ⟨S128, .f32⟩
  | 114 => ⟨S_, .f32⟩
  | 115 => ⟨S128, .f32⟩
  | 116 => ⟨S128, .f32⟩
  | 117 => ⟨S1x128, .f32⟩
  | 118 => ⟨S262144x128, .f32⟩
  | 119 => ⟨S262144x128, .f32⟩
  | 120 => ⟨S1x128, .f32⟩
  | 121 => ⟨S262144x128, .f32⟩
  | 122 => ⟨S262144x128, .f32⟩
  | 123 => ⟨S_, .f32⟩
  | 124 => ⟨S128, .f32⟩
  | 125 => ⟨S128, .f32⟩
  | 126 => ⟨S128, .f32⟩
  | 127 => ⟨S1x128, .f32⟩
  | _ => ⟨S8192x3, .f32⟩

abbrev hbmTy0_1 (i : Nat) : BufTy := match i % 128 with
  | 0 => ⟨S262144x128, .f32⟩
  | 1 => ⟨S262144x128, .f32⟩
  | 2 => ⟨S1x128, .f32⟩
  | 3 => ⟨S262144x128, .f32⟩
  | 4 => ⟨S262144x128, .f32⟩
  | 5 => ⟨S_, .f32⟩
  | 6 => ⟨S262144x128, .f32⟩
  | 7 => ⟨S262144x128, .f32⟩
  | 8 => ⟨S262144x128, .f32⟩
  | 9 => ⟨S_, .f32⟩
  | 10 => ⟨S262144x128, .f32⟩
  | 11 => ⟨S262144x128, .f32⟩
  | 12 => ⟨S262144x128, .f32⟩
  | 13 => ⟨S262144x128, .f32⟩
  | 14 => ⟨S8192x32x128, .f32⟩
  | 15 => ⟨S_, .f32⟩
  | 16 => ⟨S8192x128, .f32⟩
  | 17 => ⟨S8192x128, .f32⟩
  | 18 => ⟨S1x128, .f32⟩
  | 19 => ⟨S8192x128, .f32⟩
  | 20 => ⟨S8192x128, .f32⟩
  | 21 => ⟨S_, .f32⟩
  | 22 => ⟨S128, .f32⟩
  | 23 => ⟨S_, .f32⟩
  | 24 => ⟨S128, .f32⟩
  | 25 => ⟨S128, .f32⟩
  | 26 => ⟨S1x128, .f32⟩
  | 27 => ⟨S8192x128, .f32⟩
  | 28 => ⟨S8192x128, .f32⟩
  | 29 => ⟨S8192x128, .f32⟩
  | 30 => ⟨S_, .f32⟩
  | 31 => ⟨S128, .f32⟩
  | 32 => ⟨S_, .f32⟩
  | 33 => ⟨S128, .f32⟩
  | 34 => ⟨S128, .f32⟩
  | 35 => ⟨S1x128, .f32⟩
  | 36 => ⟨S8192x128, .f32⟩
  | 37 => ⟨S8192x128, .f32⟩
  | 38 => ⟨S1x128, .f32⟩
  | 39 => ⟨S8192x128, .f32⟩
  | 40 => ⟨S8192x128, .f32⟩
  | 41 => ⟨S_, .f32⟩
  | 42 => ⟨S128, .f32⟩
  | 43 => ⟨S128, .f32⟩
  | 44 => ⟨S128, .f32⟩
  | 45 => ⟨S1x128, .f32⟩
  | 46 => ⟨S8192x128, .f32⟩
  | 47 => ⟨S8192x128, .f32⟩
  | 48 => ⟨S1x128, .f32⟩
  | 49 => ⟨S8192x128, .f32⟩
  | 50 => ⟨S8192x128, .f32⟩
  | 51 => ⟨S_, .f32⟩
  | 52 => ⟨S8192x128, .f32⟩
  | 53 => ⟨S8192x128, .f32⟩
  | 54 => ⟨S8192x128, .f32⟩
  | 55 => ⟨S_, .f32⟩
  | 56 => ⟨S8192x128, .f32⟩
  | 57 => ⟨S8192x128, .f32⟩
  | 58 => ⟨S8192x128, .f32⟩
  | 59 => ⟨S8192x128, .f32⟩
  | 60 => ⟨S8192x4, .f32⟩
  | 61 => ⟨S1x4, .f32⟩
  | 62 => ⟨S8192x4, .f32⟩
  | 63 => ⟨S8192x4, .f32⟩
  | 64 => ⟨S8192x4, .f32⟩
  | 65 => ⟨S8192x4, .f32⟩
  | 66 => ⟨S_, .f32⟩
  | 67 => ⟨S8192x4, .f32⟩
  | 68 => ⟨S8192x4, .f32⟩
  | 69 => ⟨S_, .f32⟩
  | 70 => ⟨S8192x4, .f32⟩
  | 71 => ⟨S8192x4, .f32⟩
  | 72 => ⟨S8192x4, .f32⟩
  | 73 => ⟨S8192x1, .i32⟩
  | 74 => ⟨S8192x1, .f32⟩
  | 75 => ⟨S_, .f32⟩
  | 76 => ⟨S_, .f32⟩
  | 77 => ⟨S_, .f32⟩
  | 78 => ⟨S_, .f32⟩
  | 79 => ⟨S8192x1, .f32⟩
  | 80 => ⟨S8192x1, .f32⟩
  | 81 => ⟨S8192x4, .f32⟩
  | 82 => ⟨S8192x4, .f32⟩
  | 83 => ⟨S4x8192, .f32⟩
  | 84 => ⟨S8192, .i32⟩
  | 85 => ⟨S1x8192, .f32⟩
  | 86 => ⟨S8192, .f32⟩
  | 87 => ⟨S8192, .i32⟩
  | 88 => ⟨S8192, .f32⟩
  | 89 => ⟨S8192, .i32⟩
  | 90 => ⟨S_, .i32⟩
  | 91 => ⟨S8192, .i32⟩
  | 92 => ⟨S_, .i32⟩
  | 93 => ⟨S8192, .i32⟩
  | 94 => ⟨S8192, .i1⟩
  | 95 => ⟨S_, .i32⟩
  | 96 => ⟨S8192, .i32⟩
  | 97 => ⟨S8192, .i32⟩
  | 98 => ⟨S8192, .i32⟩
  | 99 => ⟨S8192x1, .i32⟩
  | 100 => ⟨S8192, .i32⟩
  | 101 => ⟨S1x8192, .f32⟩
  | 102 => ⟨S8192, .f32⟩
  | 103 => ⟨S8192, .i32⟩
  | 104 => ⟨S8192, .f32⟩
  | 105 => ⟨S8192, .i32⟩
  | 106 => ⟨S_, .i32⟩
  | 107 => ⟨S8192, .i32⟩
  | 108 => ⟨S_, .i32⟩
  | 109 => ⟨S8192, .i32⟩
  | 110 => ⟨S8192, .i1⟩
  | 111 => ⟨S_, .i32⟩
  | 112 => ⟨S8192, .i32⟩
  | 113 => ⟨S8192, .i32⟩
  | 114 => ⟨S8192, .i32⟩
  | 115 => ⟨S8192x1, .i32⟩
  | 116 => ⟨S8192, .i32⟩
  | 117 => ⟨S1x8192, .f32⟩
  | 118 => ⟨S8192, .f32⟩
  | 119 => ⟨S8192, .i32⟩
  | 120 => ⟨S8192, .f32⟩
  | 121 => ⟨S8192, .i32⟩
  | 122 => ⟨S_, .i32⟩
  | 123 => ⟨S8192, .i32⟩
  | 124 => ⟨S_, .i32⟩
  | 125 => ⟨S8192, .i32⟩
  | 126 => ⟨S8192, .i1⟩
  | 127 => ⟨S_, .i32⟩
  | _ => ⟨S8192x3, .f32⟩

abbrev hbmTy0_2 (i : Nat) : BufTy := match i % 128 with
  | 0 => ⟨S8192, .i32⟩
  | 1 => ⟨S8192, .i32⟩
  | 2 => ⟨S8192, .i32⟩
  | 3 => ⟨S8192x1, .i32⟩
  | 4 => ⟨S8192, .i32⟩
  | 5 => ⟨S1x8192, .f32⟩
  | 6 => ⟨S8192, .f32⟩
  | 7 => ⟨S8192, .i32⟩
  | 8 => ⟨S8192, .f32⟩
  | 9 => ⟨S8192, .i32⟩
  | 10 => ⟨S_, .i32⟩
  | 11 => ⟨S8192, .i32⟩
  | 12 => ⟨S_, .i32⟩
  | 13 => ⟨S8192, .i32⟩
  | 14 => ⟨S8192, .i1⟩
  | 15 => ⟨S_, .i32⟩
  | 16 => ⟨S8192, .i32⟩
  | 17 => ⟨S8192, .i32⟩
  | 18 => ⟨S8192, .i32⟩
  | 19 => ⟨S8192x1, .i32⟩
  | 20 => ⟨S8192, .i32⟩
  | 21 => ⟨S1x8192, .i32⟩
  | 22 => ⟨S1x8192, .i32⟩
  | 23 => ⟨S1x8192, .i32⟩
  | 24 => ⟨S1x8192, .i32⟩
  | 25 => ⟨S4x8192, .i32⟩
  | 26 => ⟨S1x8192, .i32⟩
  | 27 => ⟨S1x8192, .i32⟩
  | 28 => ⟨S1x8192, .i32⟩
  | 29 => ⟨S1x8192, .i32⟩
  | 30 => ⟨S4x8192, .i32⟩
  | _ => ⟨S8192x3, .f32⟩

abbrev hbmTy (i : Nat) : BufTy := match i / 128 with
  | 0 => hbmTy0_0 i
  | 1 => hbmTy0_1 i
  | 2 => hbmTy0_2 i
  | _ => ⟨S8192x3, .f32⟩

abbrev bufTy : (tb : Table) → Fin (tcTables nBuf tb) → BufTy
  | .hbm, ⟨i, _⟩ => hbmTy i
  | .local _ .vmem, ⟨0, _⟩ => ⟨S8192x4, .f32⟩
  | .local _ .vmem, ⟨1, _⟩ => ⟨S8192x4, .f32⟩
  | _, _ => ⟨S8192x3, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_cst : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_cst_0 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_cst_1 : Ref sig .tc := ⟨.hbm, 35, rfl⟩
abbrev main_call0_v0 : Ref sig .tc := ⟨.hbm, 36, rfl⟩
abbrev main_call0_v1 : Ref sig .tc := ⟨.hbm, 37, rfl⟩
abbrev main_v17 : Ref sig .tc := ⟨.hbm, 38, rfl⟩
abbrev main_v18 : Ref sig .tc := ⟨.hbm, 39, rfl⟩
abbrev main_values : Ref sig .tc := ⟨.hbm, 40, rfl⟩
abbrev main_indices : Ref sig .tc := ⟨.hbm, 41, rfl⟩
abbrev main_c : Ref sig .tc := ⟨.hbm, 42, rfl⟩
abbrev main_v19 : Ref sig .tc := ⟨.hbm, 43, rfl⟩
abbrev main_v20 : Ref sig .tc := ⟨.hbm, 44, rfl⟩
abbrev main_c_2 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_3 : Ref sig .tc := ⟨.hbm, 60, rfl⟩
abbrev main_v35 : Ref sig .tc := ⟨.hbm, 61, rfl⟩
abbrev main_cst_4 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_cst_5 : Ref sig .tc := ⟨.hbm, 69, rfl⟩
abbrev main_v42 : Ref sig .tc := ⟨.hbm, 70, rfl⟩
abbrev main_cst_6 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_cst_7 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_cst_8 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_cst_9 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_cst_10 : Ref sig .tc := ⟨.hbm, 103, rfl⟩
abbrev main_v71 : Ref sig .tc := ⟨.hbm, 104, rfl⟩
abbrev main_cst_11 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_cst_12 : Ref sig .tc := ⟨.hbm, 112, rfl⟩
abbrev main_v78 : Ref sig .tc := ⟨.hbm, 113, rfl⟩
abbrev main_cst_13 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_cst_14 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_cst_15 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_cst_16 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_cst_17 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_cst_18 : Ref sig .tc := ⟨.hbm, 149, rfl⟩
abbrev main_v109 : Ref sig .tc := ⟨.hbm, 150, rfl⟩
abbrev main_cst_19 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_cst_20 : Ref sig .tc := ⟨.hbm, 158, rfl⟩
abbrev main_v116 : Ref sig .tc := ⟨.hbm, 159, rfl⟩
abbrev main_cst_21 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_cst_22 : Ref sig .tc := ⟨.hbm, 169, rfl⟩
abbrev main_v125 : Ref sig .tc := ⟨.hbm, 170, rfl⟩
abbrev main_v126 : Ref sig .tc := ⟨.hbm, 171, rfl⟩
abbrev main_v127 : Ref sig .tc := ⟨.hbm, 172, rfl⟩
abbrev main_v128 : Ref sig .tc := ⟨.hbm, 173, rfl⟩
abbrev main_v129 : Ref sig .tc := ⟨.hbm, 174, rfl⟩
abbrev main_v130 : Ref sig .tc := ⟨.hbm, 175, rfl⟩
abbrev main_v131 : Ref sig .tc := ⟨.hbm, 176, rfl⟩
abbrev main_v132 : Ref sig .tc := ⟨.hbm, 177, rfl⟩
abbrev main_v133 : Ref sig .tc := ⟨.hbm, 178, rfl⟩
abbrev main_cst_23 : Ref sig .tc := ⟨.hbm, 179, rfl⟩
abbrev main_v134 : Ref sig .tc := ⟨.hbm, 180, rfl⟩
abbrev main_v135 : Ref sig .tc := ⟨.hbm, 181, rfl⟩
abbrev main_v136 : Ref sig .tc := ⟨.hbm, 182, rfl⟩
abbrev main_cst_24 : Ref sig .tc := ⟨.hbm, 183, rfl⟩
abbrev main_v137 : Ref sig .tc := ⟨.hbm, 184, rfl⟩
abbrev main_v138 : Ref sig .tc := ⟨.hbm, 185, rfl⟩
abbrev main_v139 : Ref sig .tc := ⟨.hbm, 186, rfl⟩
abbrev main_v140 : Ref sig .tc := ⟨.hbm, 187, rfl⟩
abbrev main_v141 : Ref sig .tc := ⟨.hbm, 188, rfl⟩
abbrev main_v142 : Ref sig .tc := ⟨.hbm, 189, rfl⟩
abbrev main_v143 : Ref sig .tc := ⟨.hbm, 190, rfl⟩
abbrev main_v144 : Ref sig .tc := ⟨.hbm, 191, rfl⟩
abbrev main_v145 : Ref sig .tc := ⟨.hbm, 192, rfl⟩
abbrev main_v146 : Ref sig .tc := ⟨.hbm, 193, rfl⟩
abbrev main_cst_25 : Ref sig .tc := ⟨.hbm, 194, rfl⟩
abbrev main_v147 : Ref sig .tc := ⟨.hbm, 195, rfl⟩
abbrev main_v148 : Ref sig .tc := ⟨.hbm, 196, rfl⟩
abbrev main_cst_26 : Ref sig .tc := ⟨.hbm, 197, rfl⟩
abbrev main_v149 : Ref sig .tc := ⟨.hbm, 198, rfl⟩
abbrev main_v150 : Ref sig .tc := ⟨.hbm, 199, rfl⟩
abbrev main_v151 : Ref sig .tc := ⟨.hbm, 200, rfl⟩
abbrev main_v152 : Ref sig .tc := ⟨.hbm, 201, rfl⟩
abbrev main_v153 : Ref sig .tc := ⟨.hbm, 202, rfl⟩
abbrev main_cst_27 : Ref sig .tc := ⟨.hbm, 203, rfl⟩
abbrev main_v154 : Ref sig .tc := ⟨.hbm, 204, rfl⟩
abbrev main_cst_28 : Ref sig .tc := ⟨.hbm, 205, rfl⟩
abbrev main_v155 : Ref sig .tc := ⟨.hbm, 206, rfl⟩
abbrev main_v156 : Ref sig .tc := ⟨.hbm, 207, rfl⟩
abbrev main_v157 : Ref sig .tc := ⟨.hbm, 208, rfl⟩
abbrev main_v158 : Ref sig .tc := ⟨.hbm, 209, rfl⟩
abbrev main_v159 : Ref sig .tc := ⟨.hbm, 210, rfl⟩
abbrev main_v160 : Ref sig .tc := ⟨.hbm, 211, rfl⟩
abbrev main_v161 : Ref sig .tc := ⟨.hbm, 212, rfl⟩
abbrev main_v162 : Ref sig .tc := ⟨.hbm, 213, rfl⟩
abbrev main_v163 : Ref sig .tc := ⟨.hbm, 214, rfl⟩
abbrev main_call1_v0 : Ref sig .tc := ⟨.hbm, 215, rfl⟩
abbrev main_call1_v1_0 : Ref sig .tc := ⟨.hbm, 216, rfl⟩
abbrev main_v164 : Ref sig .tc := ⟨.hbm, 217, rfl⟩
abbrev main_c_29 : Ref sig .tc := ⟨.hbm, 218, rfl⟩
abbrev main_v165 : Ref sig .tc := ⟨.hbm, 219, rfl⟩
abbrev main_c_30 : Ref sig .tc := ⟨.hbm, 220, rfl⟩
abbrev main_v166 : Ref sig .tc := ⟨.hbm, 221, rfl⟩
abbrev main_v167 : Ref sig .tc := ⟨.hbm, 222, rfl⟩
abbrev main_c_31 : Ref sig .tc := ⟨.hbm, 223, rfl⟩
abbrev main_v168 : Ref sig .tc := ⟨.hbm, 224, rfl⟩
abbrev main_v169 : Ref sig .tc := ⟨.hbm, 225, rfl⟩
abbrev main_v170 : Ref sig .tc := ⟨.hbm, 226, rfl⟩
abbrev main_v171 : Ref sig .tc := ⟨.hbm, 227, rfl⟩
abbrev main_v172 : Ref sig .tc := ⟨.hbm, 228, rfl⟩
abbrev main_v173 : Ref sig .tc := ⟨.hbm, 229, rfl⟩
abbrev main_v174 : Ref sig .tc := ⟨.hbm, 230, rfl⟩
abbrev main_call2_v0 : Ref sig .tc := ⟨.hbm, 231, rfl⟩
abbrev main_call2_v1_0 : Ref sig .tc := ⟨.hbm, 232, rfl⟩
abbrev main_v175 : Ref sig .tc := ⟨.hbm, 233, rfl⟩
abbrev main_c_32 : Ref sig .tc := ⟨.hbm, 234, rfl⟩
abbrev main_v176 : Ref sig .tc := ⟨.hbm, 235, rfl⟩
abbrev main_c_33 : Ref sig .tc := ⟨.hbm, 236, rfl⟩
abbrev main_v177 : Ref sig .tc := ⟨.hbm, 237, rfl⟩
abbrev main_v178 : Ref sig .tc := ⟨.hbm, 238, rfl⟩
abbrev main_c_34 : Ref sig .tc := ⟨.hbm, 239, rfl⟩
abbrev main_v179 : Ref sig .tc := ⟨.hbm, 240, rfl⟩
abbrev main_v180 : Ref sig .tc := ⟨.hbm, 241, rfl⟩
abbrev main_v181 : Ref sig .tc := ⟨.hbm, 242, rfl⟩
abbrev main_v182 : Ref sig .tc := ⟨.hbm, 243, rfl⟩
abbrev main_v183 : Ref sig .tc := ⟨.hbm, 244, rfl⟩
abbrev main_v184 : Ref sig .tc := ⟨.hbm, 245, rfl⟩
abbrev main_v185 : Ref sig .tc := ⟨.hbm, 246, rfl⟩
abbrev main_call3_v0 : Ref sig .tc := ⟨.hbm, 247, rfl⟩
abbrev main_call3_v1_0 : Ref sig .tc := ⟨.hbm, 248, rfl⟩
abbrev main_v186 : Ref sig .tc := ⟨.hbm, 249, rfl⟩
abbrev main_c_35 : Ref sig .tc := ⟨.hbm, 250, rfl⟩
abbrev main_v187 : Ref sig .tc := ⟨.hbm, 251, rfl⟩
abbrev main_c_36 : Ref sig .tc := ⟨.hbm, 252, rfl⟩
abbrev main_v188 : Ref sig .tc := ⟨.hbm, 253, rfl⟩
abbrev main_v189 : Ref sig .tc := ⟨.hbm, 254, rfl⟩
abbrev main_c_37 : Ref sig .tc := ⟨.hbm, 255, rfl⟩
abbrev main_v190 : Ref sig .tc := ⟨.hbm, 256, rfl⟩
abbrev main_v191 : Ref sig .tc := ⟨.hbm, 257, rfl⟩
abbrev main_v192 : Ref sig .tc := ⟨.hbm, 258, rfl⟩
abbrev main_v193 : Ref sig .tc := ⟨.hbm, 259, rfl⟩
abbrev main_v194 : Ref sig .tc := ⟨.hbm, 260, rfl⟩
abbrev main_v195 : Ref sig .tc := ⟨.hbm, 261, rfl⟩
abbrev main_v196 : Ref sig .tc := ⟨.hbm, 262, rfl⟩
abbrev main_call4_v0 : Ref sig .tc := ⟨.hbm, 263, rfl⟩
abbrev main_call4_v1_0 : Ref sig .tc := ⟨.hbm, 264, rfl⟩
abbrev main_v197 : Ref sig .tc := ⟨.hbm, 265, rfl⟩
abbrev main_c_38 : Ref sig .tc := ⟨.hbm, 266, rfl⟩
abbrev main_v198 : Ref sig .tc := ⟨.hbm, 267, rfl⟩
abbrev main_c_39 : Ref sig .tc := ⟨.hbm, 268, rfl⟩
abbrev main_v199 : Ref sig .tc := ⟨.hbm, 269, rfl⟩
abbrev main_v200 : Ref sig .tc := ⟨.hbm, 270, rfl⟩
abbrev main_c_40 : Ref sig .tc := ⟨.hbm, 271, rfl⟩
abbrev main_v201 : Ref sig .tc := ⟨.hbm, 272, rfl⟩
abbrev main_v202 : Ref sig .tc := ⟨.hbm, 273, rfl⟩
abbrev main_v203 : Ref sig .tc := ⟨.hbm, 274, rfl⟩
abbrev main_v204 : Ref sig .tc := ⟨.hbm, 275, rfl⟩
abbrev main_v205 : Ref sig .tc := ⟨.hbm, 276, rfl⟩
abbrev main_v206 : Ref sig .tc := ⟨.hbm, 277, rfl⟩
abbrev main_v207 : Ref sig .tc := ⟨.hbm, 278, rfl⟩
abbrev main_v208 : Ref sig .tc := ⟨.hbm, 279, rfl⟩
abbrev main_v209 : Ref sig .tc := ⟨.hbm, 280, rfl⟩
abbrev main_v210 : Ref sig .tc := ⟨.hbm, 281, rfl⟩
abbrev main_v211 : Ref sig .tc := ⟨.hbm, 282, rfl⟩
abbrev main_v212 : Ref sig .tc := ⟨.hbm, 283, rfl⟩
abbrev main_v213 : Ref sig .tc := ⟨.hbm, 284, rfl⟩
abbrev main_v214 : Ref sig .tc := ⟨.hbm, 285, rfl⟩
abbrev main_v215 : Ref sig .tc := ⟨.hbm, 286, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S8192x4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192x4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S8192x3 : Shape := ⟨2, ![8192, 3]⟩
abbrev S8192 : Shape := ⟨1, ![8192]⟩
abbrev S6x128 : Shape := ⟨2, ![6, 128]⟩
abbrev S128 : Shape := ⟨1, ![128]⟩
abbrev S128x128 : Shape := ⟨2, ![128, 128]⟩
abbrev S128x4 : Shape := ⟨2, ![128, 4]⟩
abbrev S4 : Shape := ⟨1, ![4]⟩
abbrev S_ : Shape := ⟨0, ![]⟩
abbrev S8192x1 : Shape := ⟨2, ![8192, 1]⟩
abbrev S1x8192 : Shape := ⟨2, ![1, 8192]⟩
abbrev S8192x8192 : Shape := ⟨2, ![8192, 8192]⟩
abbrev S3x8192 : Shape := ⟨2, ![3, 8192]⟩
abbrev S8192x32 : Shape := ⟨2, ![8192, 32]⟩
abbrev S8192x32x1 : Shape := ⟨3, ![8192, 32, 1]⟩
abbrev S8192x32x3 : Shape := ⟨3, ![8192, 32, 3]⟩
abbrev S8192x1x3 : Shape := ⟨3, ![8192, 1, 3]⟩
abbrev S8192x32x6 : Shape := ⟨3, ![8192, 32, 6]⟩
abbrev S262144x6 : Shape := ⟨2, ![262144, 6]⟩
abbrev S262144x128 : Shape := ⟨2, ![262144, 128]⟩
abbrev S1x128 : Shape := ⟨2, ![1, 128]⟩
abbrev S8192x32x128 : Shape := ⟨3, ![8192, 32, 128]⟩
abbrev S8192x128 : Shape := ⟨2, ![8192, 128]⟩
abbrev S8192x4 : Shape := ⟨2, ![8192, 4]⟩
abbrev S1x4 : Shape := ⟨2, ![1, 4]⟩
abbrev S4x8192 : Shape := ⟨2, ![4, 8192]⟩

abbrev nBuf : Space → Nat
  | .hbm => 286
  | .vmem => 0
  | .smem => 0
  | _ => 0

abbrev hbmTy0_0 (i : Nat) : BufTy := match i % 128 with
  | 0 => ⟨S8192x3, .f32⟩
  | 1 => ⟨S8192, .i32⟩
  | 2 => ⟨S6x128, .f32⟩
  | 3 => ⟨S128, .f32⟩
  | 4 => ⟨S128, .f32⟩
  | 5 => ⟨S128, .f32⟩
  | 6 => ⟨S128x128, .f32⟩
  | 7 => ⟨S128, .f32⟩
  | 8 => ⟨S128, .f32⟩
  | 9 => ⟨S128, .f32⟩
  | 10 => ⟨S128x128, .f32⟩
  | 11 => ⟨S128, .f32⟩
  | 12 => ⟨S128, .f32⟩
  | 13 => ⟨S128, .f32⟩
  | 14 => ⟨S128x4, .f32⟩
  | 15 => ⟨S4, .f32⟩
  | 16 => ⟨S8192x3, .f32⟩
  | 17 => ⟨S_, .f32⟩
  | 18 => ⟨S8192, .f32⟩
  | 19 => ⟨S8192x1, .f32⟩
  | 20 => ⟨S1x8192, .f32⟩
  | 21 => ⟨S8192x8192, .f32⟩
  | 22 => ⟨S8192x8192, .f32⟩
  | 23 => ⟨S8192x8192, .f32⟩
  | 24 => ⟨S3x8192, .f32⟩
  | 25 => ⟨S8192x8192, .f32⟩
  | 26 => ⟨S_, .f32⟩
  | 27 => ⟨S8192x8192, .f32⟩
  | 28 => ⟨S8192x8192, .f32⟩
  | 29 => ⟨S8192x8192, .f32⟩
  | 30 => ⟨S8192x1, .i32⟩
  | 31 => ⟨S1x8192, .i32⟩
  | 32 => ⟨S8192x8192, .i32⟩
  | 33 => ⟨S8192x8192, .i32⟩
  | 34 => ⟨S8192x8192, .i1⟩
  | 35 => ⟨S_, .f32⟩
  | 36 => ⟨S_, .f32⟩
  | 37 => ⟨S8192x8192, .f32⟩
  | 38 => ⟨S8192x8192, .f32⟩
  | 39 => ⟨S8192x8192, .f32⟩
  | 40 => ⟨S8192x32, .f32⟩
  | 41 => ⟨S8192x32, .i32⟩
  | 42 => ⟨S_, .i32⟩
  | 43 => ⟨S8192x32, .i32⟩
  | 44 => ⟨S8192x32, .i1⟩
  | 45 => ⟨S_, .i32⟩
  | 46 => ⟨S8192x32, .i32⟩
  | 47 => ⟨S8192x32, .i32⟩
  | 48 => ⟨S8192x32, .i32⟩
  | 49 => ⟨S8192x32x1, .i32⟩
  | 50 => ⟨S8192x32x3, .f32⟩
  | 51 => ⟨S8192x1x3, .f32⟩
  | 52 => ⟨S8192x32x3, .f32⟩
  | 53 => ⟨S8192x32x3, .f32⟩
  | 54 => ⟨S8192x32x6, .f32⟩
  | 55 => ⟨S262144x6, .f32⟩
  | 56 => ⟨S262144x128, .f32⟩
  | 57 => ⟨S1x128, .f32⟩
  | 58 => ⟨S262144x128, .f32⟩
  | 59 => ⟨S262144x128, .f32⟩
  | 60 => ⟨S_, .f32⟩
  | 61 => ⟨S128, .f32⟩
  | 62 => ⟨S_, .f32⟩
  | 63 => ⟨S128, .f32⟩
  | 64 => ⟨S128, .f32⟩
  | 65 => ⟨S1x128, .f32⟩
  | 66 => ⟨S262144x128, .f32⟩
  | 67 => ⟨S262144x128, .f32⟩
  | 68 => ⟨S262144x128, .f32⟩
  | 69 => ⟨S_, .f32⟩
  | 70 => ⟨S128, .f32⟩
  | 71 => ⟨S_, .f32⟩
  | 72 => ⟨S128, .f32⟩
  | 73 => ⟨S128, .f32⟩
  | 74 => ⟨S1x128, .f32⟩
  | 75 => ⟨S262144x128, .f32⟩
  | 76 => ⟨S262144x128, .f32⟩
  | 77 => ⟨S1x128, .f32⟩
  | 78 => ⟨S262144x128, .f32⟩
  | 79 => ⟨S262144x128, .f32⟩
  | 80 => ⟨S_, .f32⟩
  | 81 => ⟨S128, .f32⟩
  | 82 => ⟨S128, .f32⟩
  | 83 => ⟨S128, .f32⟩
  | 84 => ⟨S1x128, .f32⟩
  | 85 => ⟨S262144x128, .f32⟩
  | 86 => ⟨S262144x128, .f32⟩
  | 87 => ⟨S1x128, .f32⟩
  | 88 => ⟨S262144x128, .f32⟩
  | 89 => ⟨S262144x128, .f32⟩
  | 90 => ⟨S_, .f32⟩
  | 91 => ⟨S262144x128, .f32⟩
  | 92 => ⟨S262144x128, .f32⟩
  | 93 => ⟨S262144x128, .f32⟩
  | 94 => ⟨S_, .f32⟩
  | 95 => ⟨S262144x128, .f32⟩
  | 96 => ⟨S262144x128, .f32⟩
  | 97 => ⟨S262144x128, .f32⟩
  | 98 => ⟨S262144x128, .f32⟩
  | 99 => ⟨S262144x128, .f32⟩
  | 100 => ⟨S1x128, .f32⟩
  | 101 => ⟨S262144x128, .f32⟩
  | 102 => ⟨S262144x128, .f32⟩
  | 103 => ⟨S_, .f32⟩
  | 104 => ⟨S128, .f32⟩
  | 105 => ⟨S_, .f32⟩
  | 106 => ⟨S128, .f32⟩
  | 107 => ⟨S128, .f32⟩
  | 108 => ⟨S1x128, .f32⟩
  | 109 => ⟨S262144x128, .f32⟩
  | 110 => ⟨S262144x128, .f32⟩
  | 111 => ⟨S262144x128, .f32⟩
  | 112 => ⟨S_, .f32⟩
  | 113 => ⟨S128, .f32⟩
  | 114 => ⟨S_, .f32⟩
  | 115 => ⟨S128, .f32⟩
  | 116 => ⟨S128, .f32⟩
  | 117 => ⟨S1x128, .f32⟩
  | 118 => ⟨S262144x128, .f32⟩
  | 119 => ⟨S262144x128, .f32⟩
  | 120 => ⟨S1x128, .f32⟩
  | 121 => ⟨S262144x128, .f32⟩
  | 122 => ⟨S262144x128, .f32⟩
  | 123 => ⟨S_, .f32⟩
  | 124 => ⟨S128, .f32⟩
  | 125 => ⟨S128, .f32⟩
  | 126 => ⟨S128, .f32⟩
  | 127 => ⟨S1x128, .f32⟩
  | _ => ⟨S8192x3, .f32⟩

abbrev hbmTy0_1 (i : Nat) : BufTy := match i % 128 with
  | 0 => ⟨S262144x128, .f32⟩
  | 1 => ⟨S262144x128, .f32⟩
  | 2 => ⟨S1x128, .f32⟩
  | 3 => ⟨S262144x128, .f32⟩
  | 4 => ⟨S262144x128, .f32⟩
  | 5 => ⟨S_, .f32⟩
  | 6 => ⟨S262144x128, .f32⟩
  | 7 => ⟨S262144x128, .f32⟩
  | 8 => ⟨S262144x128, .f32⟩
  | 9 => ⟨S_, .f32⟩
  | 10 => ⟨S262144x128, .f32⟩
  | 11 => ⟨S262144x128, .f32⟩
  | 12 => ⟨S262144x128, .f32⟩
  | 13 => ⟨S262144x128, .f32⟩
  | 14 => ⟨S8192x32x128, .f32⟩
  | 15 => ⟨S_, .f32⟩
  | 16 => ⟨S8192x128, .f32⟩
  | 17 => ⟨S8192x128, .f32⟩
  | 18 => ⟨S1x128, .f32⟩
  | 19 => ⟨S8192x128, .f32⟩
  | 20 => ⟨S8192x128, .f32⟩
  | 21 => ⟨S_, .f32⟩
  | 22 => ⟨S128, .f32⟩
  | 23 => ⟨S_, .f32⟩
  | 24 => ⟨S128, .f32⟩
  | 25 => ⟨S128, .f32⟩
  | 26 => ⟨S1x128, .f32⟩
  | 27 => ⟨S8192x128, .f32⟩
  | 28 => ⟨S8192x128, .f32⟩
  | 29 => ⟨S8192x128, .f32⟩
  | 30 => ⟨S_, .f32⟩
  | 31 => ⟨S128, .f32⟩
  | 32 => ⟨S_, .f32⟩
  | 33 => ⟨S128, .f32⟩
  | 34 => ⟨S128, .f32⟩
  | 35 => ⟨S1x128, .f32⟩
  | 36 => ⟨S8192x128, .f32⟩
  | 37 => ⟨S8192x128, .f32⟩
  | 38 => ⟨S1x128, .f32⟩
  | 39 => ⟨S8192x128, .f32⟩
  | 40 => ⟨S8192x128, .f32⟩
  | 41 => ⟨S_, .f32⟩
  | 42 => ⟨S128, .f32⟩
  | 43 => ⟨S128, .f32⟩
  | 44 => ⟨S128, .f32⟩
  | 45 => ⟨S1x128, .f32⟩
  | 46 => ⟨S8192x128, .f32⟩
  | 47 => ⟨S8192x128, .f32⟩
  | 48 => ⟨S1x128, .f32⟩
  | 49 => ⟨S8192x128, .f32⟩
  | 50 => ⟨S8192x128, .f32⟩
  | 51 => ⟨S_, .f32⟩
  | 52 => ⟨S8192x128, .f32⟩
  | 53 => ⟨S8192x128, .f32⟩
  | 54 => ⟨S8192x128, .f32⟩
  | 55 => ⟨S_, .f32⟩
  | 56 => ⟨S8192x128, .f32⟩
  | 57 => ⟨S8192x128, .f32⟩
  | 58 => ⟨S8192x128, .f32⟩
  | 59 => ⟨S8192x128, .f32⟩
  | 60 => ⟨S8192x4, .f32⟩
  | 61 => ⟨S1x4, .f32⟩
  | 62 => ⟨S8192x4, .f32⟩
  | 63 => ⟨S8192x4, .f32⟩
  | 64 => ⟨S8192x4, .f32⟩
  | 65 => ⟨S8192x4, .f32⟩
  | 66 => ⟨S_, .f32⟩
  | 67 => ⟨S8192x4, .f32⟩
  | 68 => ⟨S8192x4, .f32⟩
  | 69 => ⟨S_, .f32⟩
  | 70 => ⟨S8192x4, .f32⟩
  | 71 => ⟨S8192x4, .f32⟩
  | 72 => ⟨S8192x1, .i32⟩
  | 73 => ⟨S8192x1, .f32⟩
  | 74 => ⟨S_, .f32⟩
  | 75 => ⟨S_, .f32⟩
  | 76 => ⟨S_, .f32⟩
  | 77 => ⟨S_, .f32⟩
  | 78 => ⟨S8192x1, .f32⟩
  | 79 => ⟨S8192x1, .f32⟩
  | 80 => ⟨S8192x4, .f32⟩
  | 81 => ⟨S8192x4, .f32⟩
  | 82 => ⟨S4x8192, .f32⟩
  | 83 => ⟨S8192, .i32⟩
  | 84 => ⟨S1x8192, .f32⟩
  | 85 => ⟨S8192, .f32⟩
  | 86 => ⟨S8192, .i32⟩
  | 87 => ⟨S8192, .f32⟩
  | 88 => ⟨S8192, .i32⟩
  | 89 => ⟨S_, .i32⟩
  | 90 => ⟨S8192, .i32⟩
  | 91 => ⟨S_, .i32⟩
  | 92 => ⟨S8192, .i32⟩
  | 93 => ⟨S8192, .i1⟩
  | 94 => ⟨S_, .i32⟩
  | 95 => ⟨S8192, .i32⟩
  | 96 => ⟨S8192, .i32⟩
  | 97 => ⟨S8192, .i32⟩
  | 98 => ⟨S8192x1, .i32⟩
  | 99 => ⟨S8192, .i32⟩
  | 100 => ⟨S1x8192, .f32⟩
  | 101 => ⟨S8192, .f32⟩
  | 102 => ⟨S8192, .i32⟩
  | 103 => ⟨S8192, .f32⟩
  | 104 => ⟨S8192, .i32⟩
  | 105 => ⟨S_, .i32⟩
  | 106 => ⟨S8192, .i32⟩
  | 107 => ⟨S_, .i32⟩
  | 108 => ⟨S8192, .i32⟩
  | 109 => ⟨S8192, .i1⟩
  | 110 => ⟨S_, .i32⟩
  | 111 => ⟨S8192, .i32⟩
  | 112 => ⟨S8192, .i32⟩
  | 113 => ⟨S8192, .i32⟩
  | 114 => ⟨S8192x1, .i32⟩
  | 115 => ⟨S8192, .i32⟩
  | 116 => ⟨S1x8192, .f32⟩
  | 117 => ⟨S8192, .f32⟩
  | 118 => ⟨S8192, .i32⟩
  | 119 => ⟨S8192, .f32⟩
  | 120 => ⟨S8192, .i32⟩
  | 121 => ⟨S_, .i32⟩
  | 122 => ⟨S8192, .i32⟩
  | 123 => ⟨S_, .i32⟩
  | 124 => ⟨S8192, .i32⟩
  | 125 => ⟨S8192, .i1⟩
  | 126 => ⟨S_, .i32⟩
  | 127 => ⟨S8192, .i32⟩
  | _ => ⟨S8192x3, .f32⟩

abbrev hbmTy0_2 (i : Nat) : BufTy := match i % 128 with
  | 0 => ⟨S8192, .i32⟩
  | 1 => ⟨S8192, .i32⟩
  | 2 => ⟨S8192x1, .i32⟩
  | 3 => ⟨S8192, .i32⟩
  | 4 => ⟨S1x8192, .f32⟩
  | 5 => ⟨S8192, .f32⟩
  | 6 => ⟨S8192, .i32⟩
  | 7 => ⟨S8192, .f32⟩
  | 8 => ⟨S8192, .i32⟩
  | 9 => ⟨S_, .i32⟩
  | 10 => ⟨S8192, .i32⟩
  | 11 => ⟨S_, .i32⟩
  | 12 => ⟨S8192, .i32⟩
  | 13 => ⟨S8192, .i1⟩
  | 14 => ⟨S_, .i32⟩
  | 15 => ⟨S8192, .i32⟩
  | 16 => ⟨S8192, .i32⟩
  | 17 => ⟨S8192, .i32⟩
  | 18 => ⟨S8192x1, .i32⟩
  | 19 => ⟨S8192, .i32⟩
  | 20 => ⟨S1x8192, .i32⟩
  | 21 => ⟨S1x8192, .i32⟩
  | 22 => ⟨S1x8192, .i32⟩
  | 23 => ⟨S1x8192, .i32⟩
  | 24 => ⟨S4x8192, .i32⟩
  | 25 => ⟨S1x8192, .i32⟩
  | 26 => ⟨S1x8192, .i32⟩
  | 27 => ⟨S1x8192, .i32⟩
  | 28 => ⟨S1x8192, .i32⟩
  | 29 => ⟨S4x8192, .i32⟩
  | _ => ⟨S8192x3, .f32⟩

abbrev hbmTy (i : Nat) : BufTy := match i / 128 with
  | 0 => hbmTy0_0 i
  | 1 => hbmTy0_1 i
  | 2 => hbmTy0_2 i
  | _ => ⟨S8192x3, .f32⟩

abbrev bufTy : (tb : Table) → Fin (tcTables nBuf tb) → BufTy
  | .hbm, ⟨i, _⟩ => hbmTy i
  | _, _ => ⟨S8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_cst : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_cst_0 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_cst_1 : Ref sig .tc := ⟨.hbm, 35, rfl⟩
abbrev main_call0_v0 : Ref sig .tc := ⟨.hbm, 36, rfl⟩
abbrev main_call0_v1 : Ref sig .tc := ⟨.hbm, 37, rfl⟩
abbrev main_v17 : Ref sig .tc := ⟨.hbm, 38, rfl⟩
abbrev main_v18 : Ref sig .tc := ⟨.hbm, 39, rfl⟩
abbrev main_values : Ref sig .tc := ⟨.hbm, 40, rfl⟩
abbrev main_indices : Ref sig .tc := ⟨.hbm, 41, rfl⟩
abbrev main_c : Ref sig .tc := ⟨.hbm, 42, rfl⟩
abbrev main_v19 : Ref sig .tc := ⟨.hbm, 43, rfl⟩
abbrev main_v20 : Ref sig .tc := ⟨.hbm, 44, rfl⟩
abbrev main_c_2 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_3 : Ref sig .tc := ⟨.hbm, 60, rfl⟩
abbrev main_v35 : Ref sig .tc := ⟨.hbm, 61, rfl⟩
abbrev main_cst_4 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_cst_5 : Ref sig .tc := ⟨.hbm, 69, rfl⟩
abbrev main_v42 : Ref sig .tc := ⟨.hbm, 70, rfl⟩
abbrev main_cst_6 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_cst_7 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_cst_8 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_cst_9 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_cst_10 : Ref sig .tc := ⟨.hbm, 103, rfl⟩
abbrev main_v71 : Ref sig .tc := ⟨.hbm, 104, rfl⟩
abbrev main_cst_11 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_cst_12 : Ref sig .tc := ⟨.hbm, 112, rfl⟩
abbrev main_v78 : Ref sig .tc := ⟨.hbm, 113, rfl⟩
abbrev main_cst_13 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_cst_14 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_cst_15 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_cst_16 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_cst_17 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_cst_18 : Ref sig .tc := ⟨.hbm, 149, rfl⟩
abbrev main_v109 : Ref sig .tc := ⟨.hbm, 150, rfl⟩
abbrev main_cst_19 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_cst_20 : Ref sig .tc := ⟨.hbm, 158, rfl⟩
abbrev main_v116 : Ref sig .tc := ⟨.hbm, 159, rfl⟩
abbrev main_cst_21 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_cst_22 : Ref sig .tc := ⟨.hbm, 169, rfl⟩
abbrev main_v125 : Ref sig .tc := ⟨.hbm, 170, rfl⟩
abbrev main_v126 : Ref sig .tc := ⟨.hbm, 171, rfl⟩
abbrev main_v127 : Ref sig .tc := ⟨.hbm, 172, rfl⟩
abbrev main_v128 : Ref sig .tc := ⟨.hbm, 173, rfl⟩
abbrev main_v129 : Ref sig .tc := ⟨.hbm, 174, rfl⟩
abbrev main_v130 : Ref sig .tc := ⟨.hbm, 175, rfl⟩
abbrev main_v131 : Ref sig .tc := ⟨.hbm, 176, rfl⟩
abbrev main_v132 : Ref sig .tc := ⟨.hbm, 177, rfl⟩
abbrev main_v133 : Ref sig .tc := ⟨.hbm, 178, rfl⟩
abbrev main_cst_23 : Ref sig .tc := ⟨.hbm, 179, rfl⟩
abbrev main_v134 : Ref sig .tc := ⟨.hbm, 180, rfl⟩
abbrev main_v135 : Ref sig .tc := ⟨.hbm, 181, rfl⟩
abbrev main_v136 : Ref sig .tc := ⟨.hbm, 182, rfl⟩
abbrev main_cst_24 : Ref sig .tc := ⟨.hbm, 183, rfl⟩
abbrev main_v137 : Ref sig .tc := ⟨.hbm, 184, rfl⟩
abbrev main_v138 : Ref sig .tc := ⟨.hbm, 185, rfl⟩
abbrev main_v139 : Ref sig .tc := ⟨.hbm, 186, rfl⟩
abbrev main_v140 : Ref sig .tc := ⟨.hbm, 187, rfl⟩
abbrev main_v141 : Ref sig .tc := ⟨.hbm, 188, rfl⟩
abbrev main_v142 : Ref sig .tc := ⟨.hbm, 189, rfl⟩
abbrev main_v143 : Ref sig .tc := ⟨.hbm, 190, rfl⟩
abbrev main_v144 : Ref sig .tc := ⟨.hbm, 191, rfl⟩
abbrev main_v145 : Ref sig .tc := ⟨.hbm, 192, rfl⟩
abbrev main_v146 : Ref sig .tc := ⟨.hbm, 193, rfl⟩
abbrev main_cst_25 : Ref sig .tc := ⟨.hbm, 194, rfl⟩
abbrev main_v147 : Ref sig .tc := ⟨.hbm, 195, rfl⟩
abbrev main_v148 : Ref sig .tc := ⟨.hbm, 196, rfl⟩
abbrev main_cst_26 : Ref sig .tc := ⟨.hbm, 197, rfl⟩
abbrev main_v149 : Ref sig .tc := ⟨.hbm, 198, rfl⟩
abbrev main_v150 : Ref sig .tc := ⟨.hbm, 199, rfl⟩
abbrev main_v151 : Ref sig .tc := ⟨.hbm, 200, rfl⟩
abbrev main_v152 : Ref sig .tc := ⟨.hbm, 201, rfl⟩
abbrev main_cst_27 : Ref sig .tc := ⟨.hbm, 202, rfl⟩
abbrev main_v153 : Ref sig .tc := ⟨.hbm, 203, rfl⟩
abbrev main_cst_28 : Ref sig .tc := ⟨.hbm, 204, rfl⟩
abbrev main_v154 : Ref sig .tc := ⟨.hbm, 205, rfl⟩
abbrev main_v155 : Ref sig .tc := ⟨.hbm, 206, rfl⟩
abbrev main_v156 : Ref sig .tc := ⟨.hbm, 207, rfl⟩
abbrev main_v157 : Ref sig .tc := ⟨.hbm, 208, rfl⟩
abbrev main_v158 : Ref sig .tc := ⟨.hbm, 209, rfl⟩
abbrev main_v159 : Ref sig .tc := ⟨.hbm, 210, rfl⟩
abbrev main_v160 : Ref sig .tc := ⟨.hbm, 211, rfl⟩
abbrev main_v161 : Ref sig .tc := ⟨.hbm, 212, rfl⟩
abbrev main_v162 : Ref sig .tc := ⟨.hbm, 213, rfl⟩
abbrev main_call1_v0 : Ref sig .tc := ⟨.hbm, 214, rfl⟩
abbrev main_call1_v1_0 : Ref sig .tc := ⟨.hbm, 215, rfl⟩
abbrev main_v163 : Ref sig .tc := ⟨.hbm, 216, rfl⟩
abbrev main_c_29 : Ref sig .tc := ⟨.hbm, 217, rfl⟩
abbrev main_v164 : Ref sig .tc := ⟨.hbm, 218, rfl⟩
abbrev main_c_30 : Ref sig .tc := ⟨.hbm, 219, rfl⟩
abbrev main_v165 : Ref sig .tc := ⟨.hbm, 220, rfl⟩
abbrev main_v166 : Ref sig .tc := ⟨.hbm, 221, rfl⟩
abbrev main_c_31 : Ref sig .tc := ⟨.hbm, 222, rfl⟩
abbrev main_v167 : Ref sig .tc := ⟨.hbm, 223, rfl⟩
abbrev main_v168 : Ref sig .tc := ⟨.hbm, 224, rfl⟩
abbrev main_v169 : Ref sig .tc := ⟨.hbm, 225, rfl⟩
abbrev main_v170 : Ref sig .tc := ⟨.hbm, 226, rfl⟩
abbrev main_v171 : Ref sig .tc := ⟨.hbm, 227, rfl⟩
abbrev main_v172 : Ref sig .tc := ⟨.hbm, 228, rfl⟩
abbrev main_v173 : Ref sig .tc := ⟨.hbm, 229, rfl⟩
abbrev main_call2_v0 : Ref sig .tc := ⟨.hbm, 230, rfl⟩
abbrev main_call2_v1_0 : Ref sig .tc := ⟨.hbm, 231, rfl⟩
abbrev main_v174 : Ref sig .tc := ⟨.hbm, 232, rfl⟩
abbrev main_c_32 : Ref sig .tc := ⟨.hbm, 233, rfl⟩
abbrev main_v175 : Ref sig .tc := ⟨.hbm, 234, rfl⟩
abbrev main_c_33 : Ref sig .tc := ⟨.hbm, 235, rfl⟩
abbrev main_v176 : Ref sig .tc := ⟨.hbm, 236, rfl⟩
abbrev main_v177 : Ref sig .tc := ⟨.hbm, 237, rfl⟩
abbrev main_c_34 : Ref sig .tc := ⟨.hbm, 238, rfl⟩
abbrev main_v178 : Ref sig .tc := ⟨.hbm, 239, rfl⟩
abbrev main_v179 : Ref sig .tc := ⟨.hbm, 240, rfl⟩
abbrev main_v180 : Ref sig .tc := ⟨.hbm, 241, rfl⟩
abbrev main_v181 : Ref sig .tc := ⟨.hbm, 242, rfl⟩
abbrev main_v182 : Ref sig .tc := ⟨.hbm, 243, rfl⟩
abbrev main_v183 : Ref sig .tc := ⟨.hbm, 244, rfl⟩
abbrev main_v184 : Ref sig .tc := ⟨.hbm, 245, rfl⟩
abbrev main_call3_v0 : Ref sig .tc := ⟨.hbm, 246, rfl⟩
abbrev main_call3_v1_0 : Ref sig .tc := ⟨.hbm, 247, rfl⟩
abbrev main_v185 : Ref sig .tc := ⟨.hbm, 248, rfl⟩
abbrev main_c_35 : Ref sig .tc := ⟨.hbm, 249, rfl⟩
abbrev main_v186 : Ref sig .tc := ⟨.hbm, 250, rfl⟩
abbrev main_c_36 : Ref sig .tc := ⟨.hbm, 251, rfl⟩
abbrev main_v187 : Ref sig .tc := ⟨.hbm, 252, rfl⟩
abbrev main_v188 : Ref sig .tc := ⟨.hbm, 253, rfl⟩
abbrev main_c_37 : Ref sig .tc := ⟨.hbm, 254, rfl⟩
abbrev main_v189 : Ref sig .tc := ⟨.hbm, 255, rfl⟩
abbrev main_v190 : Ref sig .tc := ⟨.hbm, 256, rfl⟩
abbrev main_v191 : Ref sig .tc := ⟨.hbm, 257, rfl⟩
abbrev main_v192 : Ref sig .tc := ⟨.hbm, 258, rfl⟩
abbrev main_v193 : Ref sig .tc := ⟨.hbm, 259, rfl⟩
abbrev main_v194 : Ref sig .tc := ⟨.hbm, 260, rfl⟩
abbrev main_v195 : Ref sig .tc := ⟨.hbm, 261, rfl⟩
abbrev main_call4_v0 : Ref sig .tc := ⟨.hbm, 262, rfl⟩
abbrev main_call4_v1_0 : Ref sig .tc := ⟨.hbm, 263, rfl⟩
abbrev main_v196 : Ref sig .tc := ⟨.hbm, 264, rfl⟩
abbrev main_c_38 : Ref sig .tc := ⟨.hbm, 265, rfl⟩
abbrev main_v197 : Ref sig .tc := ⟨.hbm, 266, rfl⟩
abbrev main_c_39 : Ref sig .tc := ⟨.hbm, 267, rfl⟩
abbrev main_v198 : Ref sig .tc := ⟨.hbm, 268, rfl⟩
abbrev main_v199 : Ref sig .tc := ⟨.hbm, 269, rfl⟩
abbrev main_c_40 : Ref sig .tc := ⟨.hbm, 270, rfl⟩
abbrev main_v200 : Ref sig .tc := ⟨.hbm, 271, rfl⟩
abbrev main_v201 : Ref sig .tc := ⟨.hbm, 272, rfl⟩
abbrev main_v202 : Ref sig .tc := ⟨.hbm, 273, rfl⟩
abbrev main_v203 : Ref sig .tc := ⟨.hbm, 274, rfl⟩
abbrev main_v204 : Ref sig .tc := ⟨.hbm, 275, rfl⟩
abbrev main_v205 : Ref sig .tc := ⟨.hbm, 276, rfl⟩
abbrev main_v206 : Ref sig .tc := ⟨.hbm, 277, rfl⟩
abbrev main_v207 : Ref sig .tc := ⟨.hbm, 278, rfl⟩
abbrev main_v208 : Ref sig .tc := ⟨.hbm, 279, rfl⟩
abbrev main_v209 : Ref sig .tc := ⟨.hbm, 280, rfl⟩
abbrev main_v210 : Ref sig .tc := ⟨.hbm, 281, rfl⟩
abbrev main_v211 : Ref sig .tc := ⟨.hbm, 282, rfl⟩
abbrev main_v212 : Ref sig .tc := ⟨.hbm, 283, rfl⟩
abbrev main_v213 : Ref sig .tc := ⟨.hbm, 284, rfl⟩
abbrev main_v214 : Ref sig .tc := ⟨.hbm, 285, rfl⟩

abbrev nD : Nat := 1
abbrev τ : Topo := Topo.v7x

variable {F : FTy → Type} [FloatOps F]
-- ==== Proof.Sim.lean ====
/-
  Two straight lines of host operations, over two signatures, that run the same operations in the same order.

  A host program here writes one buffer per operation, in the order of the buffers' numbers, so after `n` buffers are
  written the two programs hold the same contents in every pair of buffers whose numbers correspond. `Agree f n V V'`
  states that (`f` is the correspondence of the numbers), the `same_…` lemmas carry it over one operation of each
  kind, and `Same` carries it over two lists. Nothing in this module is about a particular program.
-/
module

public import Idealize.ShloMosaic.Lib.Pipeline.Frame

@[expose] public section

noncomputable section

namespace Cert.Sim

open Idealize.ShloMosaic Idealize.ShloMosaic.StableHlo

variable {τ τ' : Topo} {sig sig' : RefSig} {Val : EltTy → Type}

/-- Buffer `r` of the one signature is among the first `n` HBM buffers and buffer `r'` of the other is the HBM buffer
    whose number `f` assigns to it; the two have one type. -/
structure Pair (f : ℕ → ℕ) (n : ℕ) (r : Ref sig .tc) (r' : Ref sig' .tc) : Prop where
  left : r.space = .hbm
  right : r'.space = .hbm
  type : r.ty = r'.ty
  below : r.idx.val < n
  number : r'.idx.val = f r.idx.val

/-- The two valuations hold the same contents in every pair of corresponding buffers among the first `n`. -/
def Agree (f : ℕ → ℕ) (n : ℕ) (V : Valuation τ sig Val) (V' : Valuation τ' sig' Val) : Prop :=
  ∀ (r : Ref sig .tc) (r' : Ref sig' .tc), Pair f n r r' → HEq (V (Proc.devRef .tc r)) (V' (Proc.devRef .tc r'))

/-- A buffer is its space and its number. -/
theorem ref_ext (r s : Ref sig .tc) (hs : r.space = s.space) (hi : r.idx.val = s.idx.val) : r = s := by
  obtain ⟨a, i, h⟩ := r
  obtain ⟨b, j, k⟩ := s
  obtain rfl : a = b := hs
  obtain rfl : i = j := Fin.ext hi
  rfl

/-- If two operations each write one buffer, the two buffers correspond, the one is the next by number, and the two
    results at it agree, then agreement on the first `n` buffers becomes agreement on the first `n + 1`. -/
theorem same_step {f : ℕ → ℕ} (hf : Function.Injective f) {n : ℕ} {op : HloOp τ sig Val} {op' : HloOp τ' sig' Val}
    {y : Ref sig .tc} {y' : Ref sig' .tc} (hw : op.writes = {Proc.devRef .tc y}) (hw' : op'.writes = {Proc.devRef .tc y'})
    (hy : Pair f (n + 1) y y') (hn : y.idx.val = n) {V : Valuation τ sig Val} {V' : Valuation τ' sig' Val}
    (hA : Agree f n V V')
    (hv : HEq (op.result V (Proc.devRef .tc y)) (op'.result V' (Proc.devRef .tc y'))) :
    Agree f (n + 1) (op.result V) (op'.result V') := by
  intro r r' h
  by_cases e : r.idx.val = n
  · obtain rfl : r = y := ref_ext r y (h.left.trans hy.left.symm) (e.trans hn.symm)
    obtain rfl : r' = y' := ref_ext r' y' (h.right.trans hy.right.symm) (h.number.trans hy.number.symm)
    exact hv
  · have h1 : r ≠ y := fun q => e (by rw [q]; exact hn)
    have h2 : r' ≠ y' := fun q => by
      subst q
      exact e ((hf (h.number.symm.trans hy.number)).trans hn)
    have d1 : (Proc.devRef .tc r : DevRef τ sig) ∉ op.writes := by
      rw [hw, Finset.mem_singleton]; exact fun q => h1 (Proc.devRef_injective _ q)
    have d2 : (Proc.devRef .tc r' : DevRef τ' sig') ∉ op'.writes := by
      rw [hw', Finset.mem_singleton]; exact fun q => h2 (Proc.devRef_injective _ q)
    rw [op.result_of_not_mem V d1, op'.result_of_not_mem V' d2]
    exact hA r r' ⟨h.left, h.right, h.type, by have := h.below; omega, h.number⟩

/-! ## One function of the same arguments, read at two types that are equal -/

/-- Equal functions of one argument agree on equal arguments. -/
theorem heq_app1 {A A' Y Y' : BufTy} (hA : A = A') (hY : Y = Y') {g : A.Contents Val → Y.Contents Val}
    {g' : A'.Contents Val → Y'.Contents Val} (hg : HEq g g') {a : A.Contents Val} {a' : A'.Contents Val} (ha : HEq a a') :
    HEq (g a) (g' a') := by
  subst hA hY; cases hg; cases ha; rfl

/-- Equal functions of two arguments agree on equal arguments. -/
theorem heq_app2 {A A' B B' Y Y' : BufTy} (hA : A = A') (hB : B = B') (hY : Y = Y')
    {g : A.Contents Val → B.Contents Val → Y.Contents Val} {g' : A'.Contents Val → B'.Contents Val → Y'.Contents Val}
    (hg : HEq g g') {a : A.Contents Val} {a' : A'.Contents Val} (ha : HEq a a') {b : B.Contents Val} {b' : B'.Contents Val}
    (hb : HEq b b') : HEq (g a b) (g' a' b') := by
  subst hA hB hY; cases hg; cases ha; cases hb; rfl

/-- Equal functions of three arguments agree on equal arguments. -/
theorem heq_app3 {A A' B B' C C' Y Y' : BufTy} (hA : A = A') (hB : B = B') (hC : C = C') (hY : Y = Y')
    {g : A.Contents Val → B.Contents Val → C.Contents Val → Y.Contents Val}
    {g' : A'.Contents Val → B'.Contents Val → C'.Contents Val → Y'.Contents Val} (hg : HEq g g')
    {a : A.Contents Val} {a' : A'.Contents Val} (ha : HEq a a') {b : B.Contents Val} {b' : B'.Contents Val} (hb : HEq b b')
    {c : C.Contents Val} {c' : C'.Contents Val} (hc : HEq c c') : HEq (g a b c) (g' a' b' c') := by
  subst hA hB hC hY; cases hg; cases ha; cases hb; cases hc; rfl

/-- A reshape of equal contents between equal types gives equal contents. -/
theorem heq_reshape {A A' Y Y' : BufTy} (hA : A = A') (hY : Y = Y') (he : A.elt = Y.elt) (he' : A'.elt = Y'.elt)
    (hn : A.shape.ShapeCasts Y.shape) (hn' : A'.shape.ShapeCasts Y'.shape) {a : A.Contents Val} {a' : A'.Contents Val}
    (ha : HEq a a') :
    HEq (fun i => he ▸ shapeCast Y.shape a hn i : Y.Contents Val) (fun i => he' ▸ shapeCast Y'.shape a' hn' i : Y'.Contents Val) := by
  subst hA hY; cases ha; rfl

/-! ## One operation of each kind -/

/-- The operation that writes a value: the two values agree. -/
theorem same_nullary {f : ℕ → ℕ} (hf : Function.Injective f) {n : ℕ} {y : Ref sig .tc} {y' : Ref sig' .tc}
    {v : y.ty.Contents Val} {v' : y'.ty.Contents Val} {hd hd'} (hy : Pair f (n + 1) y y') (hn : y.idx.val = n)
    (hv : HEq v v') (V : Valuation τ sig Val) (V' : Valuation τ' sig' Val) (hA : Agree f n V V') :
    Agree f (n + 1) ((nullary y v hd : HloOp τ sig Val).result V) ((nullary y' v' hd' : HloOp τ' sig' Val).result V') :=
  same_step hf rfl rfl hy hn hA (by rw [nullary_result, nullary_result]; exact hv)

/-- The operation of one operand: the operands correspond and the functions agree. -/
theorem same_unary {f : ℕ → ℕ} (hf : Function.Injective f) {n : ℕ} {x y : Ref sig .tc} {x' y' : Ref sig' .tc}
    {g : x.ty.Contents Val → y.ty.Contents Val} {g' : x'.ty.Contents Val → y'.ty.Contents Val} {hd1 hd hd1' hd'}
    (hx : Pair f n x x') (hy : Pair f (n + 1) y y') (hn : y.idx.val = n) (hg : HEq g g')
    (V : Valuation τ sig Val) (V' : Valuation τ' sig' Val) (hA : Agree f n V V') :
    Agree f (n + 1) ((unary x y g hd1 hd : HloOp τ sig Val).result V) ((unary x' y' g' hd1' hd' : HloOp τ' sig' Val).result V') :=
  same_step hf rfl rfl hy hn hA (by rw [unary_result, unary_result]; exact heq_app1 hx.type hy.type hg (hA _ _ hx))

/-- The operation of two operands: the operands correspond and the functions agree. -/
theorem same_binary {f : ℕ → ℕ} (hf : Function.Injective f) {n : ℕ} {a b y : Ref sig .tc} {a' b' y' : Ref sig' .tc}
    {g : a.ty.Contents Val → b.ty.Contents Val → y.ty.Contents Val}
    {g' : a'.ty.Contents Val → b'.ty.Contents Val → y'.ty.Contents Val} {hd1 hd2 hd hd1' hd2' hd'}
    (ha : Pair f n a a') (hb : Pair f n b b') (hy : Pair f (n + 1) y y') (hn : y.idx.val = n) (hg : HEq g g')
    (V : Valuation τ sig Val) (V' : Valuation τ' sig' Val) (hA : Agree f n V V') :
    Agree f (n + 1) ((binary a b y g hd1 hd2 hd : HloOp τ sig Val).result V)
      ((binary a' b' y' g' hd1' hd2' hd' : HloOp τ' sig' Val).result V') :=
  same_step hf rfl rfl hy hn hA
    (by rw [binary_result, binary_result]; exact heq_app2 ha.type hb.type hy.type hg (hA _ _ ha) (hA _ _ hb))

/-- The operation of three operands: the operands correspond and the functions agree. -/
theorem same_ternary {f : ℕ → ℕ} (hf : Function.Injective f) {n : ℕ} {c a b y : Ref sig .tc} {c' a' b' y' : Ref sig' .tc}
    {g : c.ty.Contents Val → a.ty.Contents Val → b.ty.Contents Val → y.ty.Contents Val}
    {g' : c'.ty.Contents Val → a'.ty.Contents Val → b'.ty.Contents Val → y'.ty.Contents Val}
    {hd1 hd2 hd3 hd hd1' hd2' hd3' hd'}
    (hc : Pair f n c c') (ha : Pair f n a a') (hb : Pair f n b b') (hy : Pair f (n + 1) y y') (hn : y.idx.val = n)
    (hg : HEq g g') (V : Valuation τ sig Val) (V' : Valuation τ' sig' Val) (hA : Agree f n V V') :
    Agree f (n + 1) ((ternary c a b y g hd1 hd2 hd3 hd : HloOp τ sig Val).result V)
      ((ternary c' a' b' y' g' hd1' hd2' hd3' hd' : HloOp τ' sig' Val).result V') :=
  same_step hf rfl rfl hy hn hA (by
    rw [ternary_result, ternary_result]
    exact heq_app3 hc.type ha.type hb.type hy.type hg (hA _ _ hc) (hA _ _ ha) (hA _ _ hb))

/-- A reshape: the operands correspond. -/
theorem same_reshape {f : ℕ → ℕ} (hf : Function.Injective f) {n : ℕ} {x y : Ref sig .tc} {x' y' : Ref sig' .tc}
    {he : x.ty.elt = y.ty.elt} {he' : x'.ty.elt = y'.ty.elt} {hs : x.ty.shape.ShapeCasts y.ty.shape}
    {hs' : x'.ty.shape.ShapeCasts y'.ty.shape} {hd1 hd hd1' hd'}
    (hx : Pair f n x x') (hy : Pair f (n + 1) y y') (hn : y.idx.val = n)
    (V : Valuation τ sig Val) (V' : Valuation τ' sig' Val) (hA : Agree f n V V') :
    Agree f (n + 1) ((reshape x y he hs hd1 hd : HloOp τ sig Val).result V)
      ((reshape x' y' he' hs' hd1' hd' : HloOp τ' sig' Val).result V') :=
  same_step hf rfl rfl hy hn hA (by
    rw [reshape_result, reshape_result]
    exact heq_reshape hx.type hy.type he he' hs hs' (hA _ _ hx))

/-- The operation of a family of operands: the operands correspond one by one, and the functions take families that
    agree one by one to values that agree. -/
theorem same_nary {f : ℕ → ℕ} (hf : Function.Injective f) {n k : ℕ} {xs : Fin k → Ref sig .tc} {y : Ref sig .tc}
    {xs' : Fin k → Ref sig' .tc} {y' : Ref sig' .tc}
    {g : ((i : Fin k) → (xs i).ty.Contents Val) → y.ty.Contents Val}
    {g' : ((i : Fin k) → (xs' i).ty.Contents Val) → y'.ty.Contents Val} {hd1 hd hd1' hd'}
    (hx : ∀ i, Pair f n (xs i) (xs' i)) (hy : Pair f (n + 1) y y') (hn : y.idx.val = n)
    (hg : ∀ u u', (∀ i, HEq (u i) (u' i)) → HEq (g u) (g' u'))
    (V : Valuation τ sig Val) (V' : Valuation τ' sig' Val) (hA : Agree f n V V') :
    Agree f (n + 1) ((nary xs y g hd1 hd : HloOp τ sig Val).result V)
      ((nary xs' y' g' hd1' hd' : HloOp τ' sig' Val).result V') :=
  same_step hf rfl rfl hy hn hA (by
    rw [nary_result, nary_result]
    exact hg _ _ fun i => hA _ _ (hx i))

/-! ## Two lists -/

/-- Running the two lists carries agreement on the first `n` buffers to agreement on the first `k`. -/
def Same (f : ℕ → ℕ) (n k : ℕ) (ops : List (HloOp τ sig Val)) (ops' : List (HloOp τ' sig' Val)) : Prop :=
  ∀ (V : Valuation τ sig Val) (V' : Valuation τ' sig' Val), Agree f n V V' → Agree f k (after ops V) (after ops' V')

/-- Two empty lists. -/
theorem same_nil (f : ℕ → ℕ) (n : ℕ) : Same f n n ([] : List (HloOp τ sig Val)) ([] : List (HloOp τ' sig' Val)) :=
  fun _ _ h => h

/-- One operation more at the head of each list. -/
theorem same_cons {f : ℕ → ℕ} {n k : ℕ} {op : HloOp τ sig Val} {op' : HloOp τ' sig' Val} {ops : List (HloOp τ sig Val)}
    {ops' : List (HloOp τ' sig' Val)}
    (h : ∀ (V : Valuation τ sig Val) (V' : Valuation τ' sig' Val), Agree f n V V' → Agree f (n + 1) (op.result V) (op'.result V'))
    (hs : Same f (n + 1) k ops ops') : Same f n k (op :: ops) (op' :: ops') :=
  fun V V' hA => hs _ _ (h V V' hA)

/-- Two lists run one after the other. -/
theorem same_append {f : ℕ → ℕ} {n k l : ℕ} {os ps : List (HloOp τ sig Val)} {os' ps' : List (HloOp τ' sig' Val)}
    (h : Same f n k os os') (h' : Same f k l ps ps') : Same f n l (os ++ ps) (os' ++ ps') := by
  intro V V' hA
  rw [after_append, after_append]
  exact h' _ _ (h _ _ hA)

/-- Two lists taken `w` operations at a time: if each stretch carries agreement from its first buffer to its last, so do
    the first `j` stretches together. -/
theorem same_chunks {f : ℕ → ℕ} {n : ℕ} (w j : ℕ) {ops : List (HloOp τ sig Val)} {ops' : List (HloOp τ' sig' Val)}
    (h : ∀ i < j, Same f (n + w * i) (n + w * (i + 1)) ((ops.drop (w * i)).take w) ((ops'.drop (w * i)).take w)) :
    Same f n (n + w * j) (ops.take (w * j)) (ops'.take (w * j)) := by
  induction j with
  | zero => exact same_nil f n
  | succ j ih =>
    rw [Nat.mul_succ, List.take_add, List.take_add]
    exact same_append (ih fun i hi => h i (Nat.lt_succ_of_lt hi)) (h j (Nat.lt_succ_self j))

end Cert.Sim

end
-- ==== Proof.Host.lean ====
/-
  The two programs' host operations, side by side. The reference's first 184 operations are the kernel program's
  operations before the launch, and its last 86 are the operations after it, the buffer numbers apart: the kernel
  program has one buffer more, the launch's result, so from the scores on its numbers are one larger.
-/
module

public import proofs.«01_k».proof.Proof.Gen.KernelIdeal.Frame
public import proofs.«01_k».proof.Proof.Gen.ReferenceIdeal.Run
public import proofs.«01_k».proof.Proof.Sim
public import Mathlib.Tactic.IntervalCases

@[expose] public section

set_option Elab.async false

noncomputable section

namespace Cert.Sim

open Idealize.ShloMosaic Idealize.ShloMosaic.StableHlo Idealize.ShloMosaic.TcCoe

variable {F : FTy → Type} [FloatOps F]

/-- Before the launch a buffer of the reference and its counterpart have one number. -/
def before (i : ℕ) : ℕ := i

/-- After it the scores (number 199) and every later buffer have a number larger by one in the kernel program. -/
def later (i : ℕ) : ℕ := i + (Nat.ble 199 i).toNat

/-- The earlier numbering sends different numbers to different numbers. -/
theorem before_inj : Function.Injective before := fun _ _ h => h

/-- The later numbering sends different numbers to different numbers. -/
theorem later_inj : Function.Injective later := by
  intro i j h
  unfold later at h
  cases hi : Nat.ble 199 i <;> cases hj : Nat.ble 199 j <;> rw [hi, hj] at h <;>
    simp only [Bool.toNat_true, Bool.toNat_false] at h
  · omega
  · rw [Nat.ble_eq] at hj
    have : ¬ 199 ≤ i := fun q => by rw [Nat.ble_eq_true_of_le q] at hi; cases hi
    omega
  · rw [Nat.ble_eq] at hi
    have : ¬ 199 ≤ j := fun q => by rw [Nat.ble_eq_true_of_le q] at hj; cases hj
    omega
  · omega

/-- The kernel program's operations before the launch. -/
abbrev kernelBefore : List (HloOp Cert.KernelIdeal.τ Cert.KernelIdeal.sig (Elt F)) :=
  List.flatten [Cert.KernelIdeal.Gen.hostOps0, Cert.KernelIdeal.Gen.hostOps0_1, Cert.KernelIdeal.Gen.hostOps0_2]

/-- The kernel program's operations after the launch. -/
abbrev kernelLater : List (HloOp Cert.KernelIdeal.τ Cert.KernelIdeal.sig (Elt F)) :=
  List.flatten [Cert.KernelIdeal.Gen.hostOps1, Cert.KernelIdeal.Gen.hostOps1_1, Cert.KernelIdeal.Gen.hostOps1_2,
    Cert.KernelIdeal.Gen.hostOps1_3, Cert.KernelIdeal.Gen.hostOps1_4, Cert.KernelIdeal.Gen.hostOps1_5,
    Cert.KernelIdeal.Gen.hostOps1_6, Cert.KernelIdeal.Gen.hostOps1_7, Cert.KernelIdeal.Gen.hostOps1_8]

set_option maxRecDepth 8192 in
set_option maxHeartbeats 2000000 in
/-- The reference's operations up to the scores are the kernel program's before the launch: from memories that agree on
    the sixteen arguments, the two agree on the first 200 buffers. -/
theorem same_before : Same before 16 200 ((Cert.ReferenceIdeal.Value.ops (F := F)).take 184) (kernelBefore (F := F)) := by
  refine same_chunks 23 8 (ops := Cert.ReferenceIdeal.Value.ops (F := F)) (ops' := kernelBefore (F := F)) fun i hi => ?_
  interval_cases i
  all_goals
    iterate 23
      refine same_cons ?_ ?_
      · first
          | with_reducible refine same_unary before_inj ?_ ?_ ?_ ?_
          | with_reducible refine same_binary before_inj ?_ ?_ ?_ ?_ ?_
          | with_reducible refine same_nullary before_inj ?_ ?_ ?_
          | with_reducible refine same_ternary before_inj ?_ ?_ ?_ ?_ ?_ ?_
          | with_reducible refine same_reshape before_inj ?_ ?_ ?_
        all_goals first | exact ⟨rfl, rfl, rfl, Nat.le_of_ble_eq_true rfl, rfl⟩ | exact rfl | exact HEq.rfl
    exact same_nil _ _

set_option maxRecDepth 8192 in
set_option maxHeartbeats 2000000 in
/-- The reference's operations from the scores on are the kernel program's after the launch: from contents that agree on
    the first 200 buffers, the two agree on all 286. -/
theorem same_later : Same later 200 286 ((Cert.ReferenceIdeal.Value.ops (F := F)).drop 184) (kernelLater (F := F)) := by
  refine same_chunks 43 2 (ops := (Cert.ReferenceIdeal.Value.ops (F := F)).drop 184) (ops' := kernelLater (F := F)) fun i hi => ?_
  interval_cases i
  all_goals
    iterate 43
      refine same_cons ?_ ?_
      · first
          | with_reducible refine same_unary later_inj ?_ ?_ ?_ ?_
          | with_reducible refine same_binary later_inj ?_ ?_ ?_ ?_ ?_
          | with_reducible refine same_nullary later_inj ?_ ?_ ?_
          | with_reducible refine same_ternary later_inj ?_ ?_ ?_ ?_ ?_ ?_
          | with_reducible refine same_reshape later_inj ?_ ?_ ?_
          | refine same_nary later_inj (fun i => ?_) ?_ rfl (fun u u' h => heq_of_eq
              ((congr (congr (congr (congrArg _ (eq_of_heq (h 0))) (eq_of_heq (h 1))) (eq_of_heq (h 2))) (eq_of_heq (h 3))).trans rfl))
            fin_cases i
        all_goals first | exact ⟨rfl, rfl, rfl, Nat.le_of_ble_eq_true rfl, rfl⟩ | exact rfl | exact HEq.rfl
    exact same_nil _ _

end Cert.Sim

end
-- ==== Proof.Region.lean ====
/-
  What the launch leaves: its result buffer holds the scores that it was given. The grid has one point, whose block is
  the whole array, and the body stores what it loaded.
-/
module

public import proofs.«01_k».proof.Proof.Gen.KernelIdeal.Frame
public import Idealize.ShloMosaic.Lib.Pipeline.ValueKit

@[expose] public section

set_option maxRecDepth 16384

noncomputable section

namespace Cert.KernelIdeal.Copy

open Cert.KernelIdeal Cert.KernelIdeal.Gen
open Idealize.ShloMosaic Idealize.ShloMosaic.TcCoe Idealize.ShloMosaic.Pipeline

variable {F : FTy → Type} [FloatOps F]

/-- The launch's result array ends holding what its operand held when the launch began. -/
theorem result_eq (m : (ℓ : Loc nD τ sig) → Buf (Elt F) ℓ) (c : Dev nD) :
    (dats m 0 c).arrAt 1 (cfgs 0).N = V m c main_v150 := by
  refine (dats m 0 c).arrAt_eq_of_after_last 1 t0_0 (by decide +kernel) _ fun j => ?_
  blk_simp
  rw [after0_1]
  frame_out
  rw [show k0_pay1 (iblk m c 0 t0_0) = iblk m c 0 t0_0 from shapeCast_self _ _]
  show View.read (Elt F) ((cfg0.win 0).blk t0_0).view (V m c (arrRef spec0 0)) j = _
  blk_simp
  refine congrArg (V m c main_v150) (funext fun a => Fin.ext ?_)
  blk_simp
  fin_cases a <;> exact Nat.zero_add _

end Cert.KernelIdeal.Copy

end
-- ==== Proof.Results.lean ====
/-
  From the arguments to the results. The two programs agree on their arguments; their operations up to the scores are
  the same (`same_before`); the launch copies the scores (`Copy.result_eq`); the operations after it are the same
  (`same_later`). So the two programs' three results are equal.
-/
module

public import proofs.«01_k».proof.Proof.Host
public import proofs.«01_k».proof.Proof.Region

@[expose] public section

set_option maxRecDepth 16384

noncomputable section

namespace Cert.Sim

open Idealize.ShloMosaic Idealize.ShloMosaic.StableHlo Idealize.ShloMosaic.TcCoe

variable {F : FTy → Type} [FloatOps F]

/-- The reference's arguments, by number. -/
def argR : Fin 16 → Ref Cert.ReferenceIdeal.sig .tc :=
  ![Cert.ReferenceIdeal.main_arg0, Cert.ReferenceIdeal.main_arg1, Cert.ReferenceIdeal.main_arg2, Cert.ReferenceIdeal.main_arg3,
    Cert.ReferenceIdeal.main_arg4, Cert.ReferenceIdeal.main_arg5, Cert.ReferenceIdeal.main_arg6, Cert.ReferenceIdeal.main_arg7,
    Cert.ReferenceIdeal.main_arg8, Cert.ReferenceIdeal.main_arg9, Cert.ReferenceIdeal.main_arg10, Cert.ReferenceIdeal.main_arg11,
    Cert.ReferenceIdeal.main_arg12, Cert.ReferenceIdeal.main_arg13, Cert.ReferenceIdeal.main_arg14, Cert.ReferenceIdeal.main_arg15]

/-- The kernel program's arguments, by number. -/
def argK : Fin 16 → Ref Cert.KernelIdeal.sig .tc :=
  ![Cert.KernelIdeal.main_arg0, Cert.KernelIdeal.main_arg1, Cert.KernelIdeal.main_arg2, Cert.KernelIdeal.main_arg3,
    Cert.KernelIdeal.main_arg4, Cert.KernelIdeal.main_arg5, Cert.KernelIdeal.main_arg6, Cert.KernelIdeal.main_arg7,
    Cert.KernelIdeal.main_arg8, Cert.KernelIdeal.main_arg9, Cert.KernelIdeal.main_arg10, Cert.KernelIdeal.main_arg11,
    Cert.KernelIdeal.main_arg12, Cert.KernelIdeal.main_arg13, Cert.KernelIdeal.main_arg14, Cert.KernelIdeal.main_arg15]

/-- The reference's argument `k` is HBM buffer `k`. -/
theorem argR_at : ∀ k : Fin 16, (argR k).space = .hbm ∧ (argR k).idx.val = k.val := by
  intro k; fin_cases k <;> exact ⟨rfl, rfl⟩

/-- The kernel program's argument `k` is HBM buffer `k`. -/
theorem argK_at : ∀ k : Fin 16, (argK k).space = .hbm ∧ (argK k).idx.val = k.val := by
  intro k; fin_cases k <;> exact ⟨rfl, rfl⟩

/-- Two memories that agree on each argument agree on the first sixteen buffers. -/
theorem agree_args (V : Valuation Cert.ReferenceIdeal.τ Cert.ReferenceIdeal.sig (Elt F))
    (V' : Valuation Cert.KernelIdeal.τ Cert.KernelIdeal.sig (Elt F))
    (h : ∀ k, HEq (V (Proc.devRef .tc (argR k))) (V' (Proc.devRef .tc (argK k)))) : Agree before 16 V V' := by
  intro r r' p
  have e : r = argR ⟨r.idx.val, p.below⟩ := ref_ext _ _ (p.left.trans (argR_at _).1.symm) (argR_at ⟨r.idx.val, p.below⟩).2.symm
  have e' : r' = argK ⟨r.idx.val, p.below⟩ :=
    ref_ext _ _ (p.right.trans (argK_at _).1.symm) (p.number.trans (argK_at ⟨r.idx.val, p.below⟩).2.symm)
  generalize (⟨r.idx.val, p.below⟩ : Fin 16) = k at e e'
  subst e e'
  exact h k

/-- The kernel program's buffers when the launch returns: what they held when it began, the launch's arrays apart. -/
abbrev afterLaunch (m : (ℓ : Loc Cert.KernelIdeal.nD Cert.KernelIdeal.τ Cert.KernelIdeal.sig) → Buf (Elt F) ℓ)
    (c : Dev Cert.KernelIdeal.nD) : Valuation Cert.KernelIdeal.τ Cert.KernelIdeal.sig (Elt F) :=
  Pipeline.withArrays (Cert.KernelIdeal.cfgs 0).spec c (Cert.KernelIdeal.Gen.V0 m c) fun w =>
    (Cert.KernelIdeal.Gen.dats m 0 c).arrAt w (Cert.KernelIdeal.cfgs 0).N

/-- The launch's two arrays are different buffers. -/
theorem arrays_inj : Function.Injective (Pipeline.arrRef (Cert.KernelIdeal.cfgs 0).spec) := by
  have h : ∀ a b : Fin 2, Pipeline.arrRef Cert.KernelIdeal.spec0 a = Pipeline.arrRef Cert.KernelIdeal.spec0 b → a = b := by
    decide
  exact fun a b e => h a b e

/-- The launch's result array, when the launch returns, holds the scores. -/
theorem afterLaunch_result (m : (ℓ : Loc Cert.KernelIdeal.nD Cert.KernelIdeal.τ Cert.KernelIdeal.sig) → Buf (Elt F) ℓ)
    (c : Dev Cert.KernelIdeal.nD) :
    afterLaunch m c (Proc.devRef .tc Cert.KernelIdeal.main_v151) = Cert.KernelIdeal.Gen.V m c Cert.KernelIdeal.main_v150 :=
  (Pipeline.withArrays_arr _ arrays_inj c _ _ 1).trans (Cert.KernelIdeal.Copy.result_eq m c)

/-- The launch turns agreement under the earlier numbering into agreement under the later one: its result takes the
    place of the scores that it was given, and it changes no other buffer that corresponds to one of the reference's. -/
theorem agree_launch (m : (ℓ : Loc Cert.KernelIdeal.nD Cert.KernelIdeal.τ Cert.KernelIdeal.sig) → Buf (Elt F) ℓ)
    (c : Dev Cert.KernelIdeal.nD) (V : Valuation Cert.ReferenceIdeal.τ Cert.ReferenceIdeal.sig (Elt F))
    (hA : Agree before 200 V (Cert.KernelIdeal.Gen.V0 m c)) : Agree later 200 V (afterLaunch m c) := by
  intro r r' p
  have hb := p.below
  by_cases e : r.idx.val = 199
  · have hn : r'.idx.val = 200 := by rw [p.number, e]; rfl
    obtain rfl : r' = Cert.KernelIdeal.main_v151 := ref_ext _ _ p.right hn
    rw [afterLaunch_result]
    exact hA r Cert.KernelIdeal.main_v150 ⟨p.left, rfl, p.type, hb, e.symm⟩
  · have hlt : r.idx.val < 199 := by omega
    have hn : r'.idx.val = r.idx.val := by
      rw [p.number]; unfold later
      rw [show Nat.ble 199 r.idx.val = false from by
        cases hq : Nat.ble 199 r.idx.val
        · rfl
        · have := Nat.le_of_ble_eq_true hq; omega]
      rfl
    rw [afterLaunch, Pipeline.withArrays_of_ne]
    · exact hA r r' ⟨p.left, p.right, p.type, hb, hn⟩
    · intro w q
      have hw : ∀ w : Fin 2, 199 ≤ (Pipeline.arrRef Cert.KernelIdeal.spec0 w).idx.val := by decide
      have := hw w
      have q' : (Pipeline.arrRef Cert.KernelIdeal.spec0 w) = r' := q
      rw [q', hn] at this
      omega

/-- From memories that agree on the arguments, the two programs end agreeing on every buffer of the reference. -/
theorem agree_all (m : (ℓ : Loc Cert.KernelIdeal.nD Cert.KernelIdeal.τ Cert.KernelIdeal.sig) → Buf (Elt F) ℓ)
    (c : Dev Cert.KernelIdeal.nD) (V : Valuation Cert.ReferenceIdeal.τ Cert.ReferenceIdeal.sig (Elt F))
    (h : ∀ k, HEq (V (Proc.devRef .tc (argR k))) (m (c, Proc.devRef .tc (argK k)))) :
    Agree later 286 (after Cert.ReferenceIdeal.Value.ops V)
      (after kernelLater (afterLaunch m c)) := by
  rw [← List.take_append_drop 184 (Cert.ReferenceIdeal.Value.ops (F := F)), after_append]
  exact same_later _ _ (agree_launch m c _ (same_before _ _ (agree_args _ _ h)))

/-- A list of operations leaves a buffer that none of them writes. -/
theorem after_keep {τ : Topo} {sig : RefSig} {Val : EltTy → Type} {b : DevRef τ sig} :
    ∀ (ops : List (HloOp τ sig Val)) (V : Valuation τ sig Val), (∀ op ∈ ops, b ∉ op.writes) → after ops V b = V b
  | [], _, _ => rfl
  | op :: ops, V, h => by
    rw [after_cons, after_keep ops _ fun o ho => h o (List.mem_cons_of_mem _ ho),
      op.result_of_not_mem V (h op List.mem_cons_self)]

/-- The launch's result array keeps the scores to the end. -/
theorem result_kept (m : (ℓ : Loc Cert.KernelIdeal.nD Cert.KernelIdeal.τ Cert.KernelIdeal.sig) → Buf (Elt F) ℓ)
    (c : Dev Cert.KernelIdeal.nD) :
    after kernelLater (afterLaunch m c)
        (Proc.devRef .tc Cert.KernelIdeal.main_v151)
      = (Cert.KernelIdeal.Gen.dats m 0 c).arrAt 1 (Cert.KernelIdeal.cfgs 0).N :=
  (after_keep _ _ fun op ho => by
    obtain ⟨l, hl, h⟩ := List.mem_flatten.mp ho
    exact Cert.KernelIdeal.Gen.sfx_keeps l hl op h 1).trans
    (Pipeline.withArrays_arr _ arrays_inj c _ _ 1)

end Cert.Sim

end
-- ==== Proof.Runs.lean ====
/-
  The three runs: the reference leaves its arguments and every semaphore counter as they were, and the kernel program
  and the reference leave equal results.
-/
module

public import proofs.«01_k».proof.Defs
public import proofs.«01_k».proof.Proof.Results
public import Idealize.ShloMosaic.Lib.Quiescent

@[expose] public section

set_option maxRecDepth 16384

noncomputable section

namespace Cert.Sim

open Idealize.ShloMosaic Idealize.ShloMosaic.StableHlo Idealize.ShloMosaic.TcCoe Idealize.SL.Sem

/-- The reference's run leaves every argument as it was and every semaphore counter at zero. -/
theorem frame_reference : Cert.quiescent_ReferenceIdeal (hReferenceIdeal := Cert.ReferenceIdeal.Gen.facts) :=
  fun m ρ _ => (θ_run _ _ _).mono
    (fun r h => ⟨fun c => (h c).2.2.2, sem_eq_zero_of_no_sems rfl r.2⟩)
    (Cert.ReferenceIdeal.Value.run m ρ)

/-- The kernel program's three results are the reference's. -/
theorem results : Cert.algebraic_KernelIdeal_ReferenceIdeal (hKernelIdeal := Cert.KernelIdeal.Gen.facts)
    (hReferenceIdeal := Cert.ReferenceIdeal.Gen.facts) := by
  intro m g m' g' _ hargs
  have hA := fun c : Dev Cert.KernelIdeal.nD => agree_all (F := Ideal) m c (launchContents m' c) (by
    intro k
    obtain ⟨h0, h1, h2, h3, h4, h5, h6, h7, h8, h9, h10, h11, h12, h13, h14, h15⟩ := hargs c
    fin_cases k
    exacts [heq_of_eq h0, heq_of_eq h1, heq_of_eq h2, heq_of_eq h3, heq_of_eq h4, heq_of_eq h5, heq_of_eq h6, heq_of_eq h7,
      heq_of_eq h8, heq_of_eq h9, heq_of_eq h10, heq_of_eq h11, heq_of_eq h12, heq_of_eq h13, heq_of_eq h14, heq_of_eq h15])
  have hK := θ_run_and (Cert.KernelIdeal.Gen.run_main (F := Ideal) m g) (Cert.KernelIdeal.Gen.unchanged (F := Ideal) m g)
  have hR := θ_run_and
    (run_seq Cert.ReferenceIdeal.Value.scopedRefs_eq Cert.ReferenceIdeal.Value.scopedSems_eq Cert.ReferenceIdeal.defs
      Cert.ReferenceIdeal.main (fun _ => Cert.ReferenceIdeal.Value.ops (F := Ideal)) Cert.ReferenceIdeal.Value.main_eq
      (fun _ => Cert.ReferenceIdeal.Value.ops_sub) m' g' fun _ => Cert.ReferenceIdeal.Value.ops_fresh)
    (Cert.ReferenceIdeal.Value.run (F := Ideal) m' g')
  refine ⟨fun c => after Cert.ReferenceIdeal.Value.ops (launchContents m' c) (Proc.devRef .tc Cert.ReferenceIdeal.main_v150),
    fun c => after Cert.ReferenceIdeal.Value.ops (launchContents m' c) (Proc.devRef .tc Cert.ReferenceIdeal.main_v209),
    fun c => after Cert.ReferenceIdeal.Value.ops (launchContents m' c) (Proc.devRef .tc Cert.ReferenceIdeal.main_v214),
    (θ_run _ _ _).mono (fun r h c => ?_) hK,
    (θ_run _ _ _).mono (fun r h c => ⟨h.1 c _, h.1 c _, h.1 c _, (h.2 c).2.2.2⟩) hR⟩
  refine ⟨?_, ?_, ?_, h.2 c⟩
  · exact ((h.1 c).1 1).trans ((result_kept m c).symm.trans
      (eq_of_heq (hA c Cert.ReferenceIdeal.main_v150 Cert.KernelIdeal.main_v151 ⟨rfl, rfl, rfl, Nat.le_of_ble_eq_true rfl, rfl⟩)).symm)
  · exact ((h.1 c).2 _ (Pipeline.mem_restRefs_of _ (by decide) (by decide))).trans
      (eq_of_heq (hA c Cert.ReferenceIdeal.main_v209 Cert.KernelIdeal.main_v210 ⟨rfl, rfl, rfl, Nat.le_of_ble_eq_true rfl, rfl⟩)).symm
  · exact ((h.1 c).2 _ (Pipeline.mem_restRefs_of _ (by decide) (by decide))).trans
      (eq_of_heq (hA c Cert.ReferenceIdeal.main_v214 Cert.KernelIdeal.main_v215 ⟨rfl, rfl, rfl, Nat.le_of_ble_eq_true rfl, rfl⟩)).symm

end Cert.Sim

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Runs

@[expose] public section

noncomputable section

namespace Cert.Proof

open Idealize.ShloMosaic Idealize.SL.Sem Cert.Kernel

/-- Every claim of the certificate. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, Cert.Sim.frame_reference,
  trivial, Cert.Sim.results⟩

end Cert.Proof

end
